-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_padded_ids [hPre_padded_ids : Cert.Pre_padded_ids.Facts] (m : (ℓ : Loc Cert.KernelIdeal.nD Cert.KernelIdeal.τ Cert.KernelIdeal.sig) → Buf (Elt Ideal) ℓ) : Prop :=
  ∀ c : Dev Cert.KernelIdeal.nD,
    (Cert.Pre_padded_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padded_ids [hPre_padded_ids : Cert.Pre_padded_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_padded_ids [hKernelIdeal : Cert.KernelIdeal.Facts] [hPre_padded_ids : Cert.Pre_padded_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padded_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_padded_ids [hReferenceIdeal : Cert.ReferenceIdeal.Facts] [hPre_padded_ids : Cert.Pre_padded_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padded_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_padded_ids [hKernelIdeal : Cert.KernelIdeal.Facts] [hReferenceIdeal : Cert.ReferenceIdeal.Facts] [hPre_padded_ids : Cert.Pre_padded_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padded_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_padded_ids : Cert.Pre_padded_ids.Facts),
    quiescent_Kernel (hKernel := hKernel) (hPre_ids_in_table := hPre_ids_in_table)
    ∧ quiescent_KernelIdeal (hKernelIdeal := hKernelIdeal) (hPre_ids_in_table := hPre_ids_in_table)
    ∧ quiescent_KernelIdeal_pre_padded_ids (hKernelIdeal := hKernelIdeal) (hPre_padded_ids := hPre_padded_ids)
    ∧ quiescent_ReferenceIdeal (hReferenceIdeal := hReferenceIdeal)
    ∧ quiescent_ReferenceIdeal_pre_padded_ids (hReferenceIdeal := hReferenceIdeal) (hPre_padded_ids := hPre_padded_ids)
    ∧ preserves_Kernel_KernelIdeal
    ∧ algebraic_KernelIdeal_ReferenceIdeal_pre_padded_ids (hKernelIdeal := hKernelIdeal) (hReferenceIdeal := hReferenceIdeal) (hPre_padded_ids := hPre_padded_ids)
-- ==== Pre_ids_in_table.lean ====
abbrev S4096x200 : Shape := ⟨2, ![4096, 200]⟩
abbrev S100000x128 : Shape := ⟨2, ![100000, 128]⟩
abbrev S128x2048 : Shape := ⟨2, ![128, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S2048x128 : Shape := ⟨2, ![2048, 128]⟩
abbrev S128 : Shape := ⟨1, ![128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) (main_arg2 : FVec F S128x2048 .f32) (main_arg3 : FVec F S2048 .f32) (main_arg4 : FVec F S2048x1024 .f32) (main_arg5 : FVec F S1024 .f32) (main_arg6 : FVec F S1024x2048 .f32) (main_arg7 : FVec F S2048 .f32) (main_arg8 : FVec F S2048x128 .f32) (main_arg9 : FVec F S128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Pre_padded_ids.lean ====
abbrev S4096x200 : Shape := ⟨2, ![4096, 200]⟩
abbrev S100000x128 : Shape := ⟨2, ![100000, 128]⟩
abbrev S128x2048 : Shape := ⟨2, ![128, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S2048x128 : Shape := ⟨2, ![2048, 128]⟩
abbrev S128 : Shape := ⟨1, ![128]⟩
abbrev S_ : Shape := ⟨0, ![]⟩
abbrev S1x128 : Shape := ⟨2, ![1, 128]⟩
abbrev S4096 : Shape := ⟨1, ![4096]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  slices_S100000x128_S1x128_0_0 : S100000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_
  reducesTo_S4096x200_S4096_d1 : S4096x200.ReducesTo [1] S4096
  reducesTo_S4096_S_d0 : S4096.ReducesTo [0] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : IVec S4096x200 32) (main_arg1 : FVec F S100000x128 .f32) (main_arg2 : FVec F S128x2048 .f32) (main_arg3 : FVec F S2048 .f32) (main_arg4 : FVec F S2048x1024 .f32) (main_arg5 : FVec F S1024 .f32) (main_arg6 : FVec F S1024x2048 .f32) (main_arg7 : FVec F S2048 .f32) (main_arg8 : FVec F S2048x128 .f32) (main_arg9 : FVec F S128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_v6 : FVec F S1x128 .f32 := (extractStridedSlice S1x128 ![0, 0] · slices_S100000x128_S1x128_0_0) main_arg1
  let main_v7 : FVec F S128 .f32 := shapeCast S128 main_v6 shapeCasts_S1x128_S128
  let main_cst : FVec F S_ .f32 := constant S_ .f32 0x00000000#32
  let main_v8 : FVec F S128 .f32 := broadcastInDim S128 ![] bcast_S_S128 main_cst
  let main_v9 : IVec S128 1 := cmpf .oeq main_v7 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v5 main_v10
  let main_c_3 : IVec S_ 32 := constantI S_ 32 0#32
  let main_v12 : IVec S4096x200 32 := broadcastInDim S4096x200 ![] bcast_S_S4096x200 main_c_3
  let main_v13 : IVec S4096x200 1 := cmpi .ne main_arg0 main_v12
  let main_c_4 : IVec S_ 1 := constantI S_ 1 0#1
  let main_v14 : IVec S4096 1 := (fun x v => Host.reduce IntOp.ori x v reducesTo_S4096x200_S4096_d1 h_S_) main_v13 main_c_4
  let main_c_5 : IVec S_ 1 := constantI S_ 1 1#1
  let main_v15 : IVec S_ 1 := (fun x v => Host.reduce IntOp.andi x v reducesTo_S4096_S_d0 h_S_) main_v14 main_c_5
  fn_part1 (F := F) main_v11 main_v15
-- ==== Kernel.lean ====
abbrev S4096x200 : Shape := ⟨2, ![4096, 200]⟩
abbrev S100000x128 : Shape := ⟨2, ![100000, 128]⟩
abbrev S128x2048 : Shape := ⟨2, ![128, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S2048x128 : Shape := ⟨2, ![2048, 128]⟩
abbrev S128 : Shape := ⟨1, ![128]⟩
abbrev S_ : Shape := ⟨0, ![]⟩
abbrev S4096x208 : Shape := ⟨2, ![4096, 208]⟩
abbrev S4096x2x104 : Shape := ⟨3, ![4096, 2, 104]⟩
abbrev S4096x128 : Shape := ⟨2, ![4096, 128]⟩
abbrev S128x2x104 : Shape := ⟨3, ![128, 2, 104]⟩
abbrev S2x2x104x128 : Shape := ⟨4, ![2, 2, 104, 128]⟩
abbrev S128x128 : Shape := ⟨2, ![128, 128]⟩
abbrev S1x1x104x128 : Shape := ⟨4, ![1, 1, 104, 128]⟩
abbrev S104x128 : Shape := ⟨2, ![104, 128]⟩
abbrev S1x1x104 : Shape := ⟨3, ![1, 1, 104]⟩
abbrev S104 : Shape := ⟨1, ![104]⟩
abbrev S16 : Shape := ⟨1, ![16]⟩
abbrev S1x2x104x128 : Shape := ⟨4, ![1, 2, 104, 128]⟩
abbrev S2x104x128 : Shape := ⟨3, ![2, 104, 128]⟩
abbrev S1x1x16 : Shape := ⟨3, ![1, 1, 16]⟩
abbrev S1x16 : Shape := ⟨2, ![1, 16]⟩
abbrev S1x2048 : Shape := ⟨2, ![1, 2048]⟩
abbrev S1x1024 : Shape := ⟨2, ![1, 1024]⟩
abbrev S1x128 : Shape := ⟨2, ![1, 128]⟩
abbrev S512x200 : Shape := ⟨2, ![512, 200]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩
abbrev S512x1024 : Shape := ⟨2, ![512, 1024]⟩

abbrev nBuf : Table → Nat
  | .hbm => 20
  | .local .tc .vmem => 14
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S128x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x128, .f32⟩
  | .hbm, ⟨9, _⟩ => ⟨S128, .f32⟩
  | .hbm, ⟨10, _⟩ => ⟨S_, .i32⟩
  | .hbm, ⟨11, _⟩ => ⟨S_, .i32⟩
  | .hbm, ⟨12, _⟩ => ⟨S4096x208, .i32⟩
  | .hbm, ⟨13, _⟩ => ⟨S4096x2x104, .i32⟩
  | .hbm, ⟨14, _⟩ => ⟨S4096x128, .f32⟩
  | .hbm, ⟨15, _⟩ => ⟨S1x2048, .f32⟩
  | .hbm, ⟨16, _⟩ => ⟨S1x1024, .f32⟩
  | .hbm, ⟨17, _⟩ => ⟨S1x2048, .f32⟩
  | .hbm, ⟨18, _⟩ => ⟨S1x128, .f32⟩
  | .hbm, ⟨19, _⟩ => ⟨S4096x128, .f32⟩
  | .local .tc .vmem, ⟨0, _⟩ => ⟨S512x200, .i32⟩
  | .local .tc .vmem, ⟨1, _⟩ => ⟨S512x200, .i32⟩
  | .local .tc .vmem, ⟨2, _⟩ => ⟨S512x128, .f32⟩
  | .local .tc .vmem, ⟨3, _⟩ => ⟨S512x128, .f32⟩
  | .local .tc .vmem, ⟨4, _⟩ => ⟨S128x2048, .f32⟩
  | .local .tc .vmem, ⟨5, _⟩ => ⟨S1x2048, .f32⟩
  | .local .tc .vmem, ⟨6, _⟩ => ⟨S2048x1024, .f32⟩
  | .local .tc .vmem, ⟨7, _⟩ => ⟨S1x1024, .f32⟩
  | .local .tc .vmem, ⟨8, _⟩ => ⟨S1024x2048, .f32⟩
  | .local .tc .vmem, ⟨9, _⟩ => ⟨S1x2048, .f32⟩
  | .local .tc .vmem, ⟨10, _⟩ => ⟨S2048x128, .f32⟩
  | .local .tc .vmem, ⟨11, _⟩ => ⟨S1x128, .f32⟩
  | .local .tc .vmem, ⟨12, _⟩ => ⟨S512x128, .f32⟩
  | .local .tc .vmem, ⟨13, _⟩ => ⟨S512x128, .f32⟩
  | .local .scVector .vmem, ⟨0, _⟩ => ⟨S128x2x104, .i32⟩
  | .local .scVector .vmem, ⟨1, _⟩ => ⟨S2x2x104x128, .f32⟩
  | .local .scVector .vmem, ⟨2, _⟩ => ⟨S128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v1_scv : Ref sig .scVector := ⟨.hbm, 13, rfl⟩
abbrev main_arg1_scv : Ref sig .scVector := ⟨.hbm, 1, rfl⟩
abbrev main_v2_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg10_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem10_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_19_r0 : BitVec 32 := 0#32
  let c0_i32_20_r0 : BitVec 32 := 0#32
  ![v2.toNat, 0, 0]
@[reducible] def k0_t1_loop : Scf.Loop 32 :=
  let c0_i32_16 : BitVec 32 := 0#32
  let c64_i32 : BitVec 32 := 64#32
  let v13 : BitVec 32 := Scalar.addi c0_i32_16 c64_i32
  let c1_i32_17 : BitVec 32 := 1#32
  ⟨c0_i32_16, v13, c1_i32_17⟩
def k0_off2 (k0_t1 : Fin k0_t1_loop.trips) : Fin 3 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_20 : BitVec 32 := 1#32
  let v15 : BitVec 32 := Scalar.addi v14 c1_i32_20
  let c0_i32_21 : BitVec 32 := 0#32
  let c0_i32_26 : BitVec 32 := 0#32
  ![v15.toNat, 0, 0]
def k0_off3 (k0_t1 : Fin k0_t1_loop.trips) : Fin 3 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_20 : BitVec 32 := 1#32
  let v15 : BitVec 32 := Scalar.addi v14 c1_i32_20
  let c1_i32_29 : BitVec 32 := 1#32
  let c0_i32_34 : BitVec 32 := 0#32
  ![v15.toNat, 1, 0]
@[reducible] def k0_t2_loop : Scf.Loop 32 :=
  let c0_i32_71 : BitVec 32 := 0#32
  let c104_i32 : BitVec 32 := 104#32
  let v52 : BitVec 32 := Scalar.addi c0_i32_71 c104_i32
  let c1_i32_72 : BitVec 32 := 1#32
  ⟨c0_i32_71, v52, c1_i32_72⟩
def k0_off4 (k0_t2 : Fin k0_t2_loop.trips) : Fin 3 → Nat :=
  let c0_i32_125 : BitVec 32 := 0#32
  let v169 : Index := Scalar.indexCast c0_i32_125
  let c0_i32_71 : BitVec 32 := 0#32
  let c1_i32_72 : BitVec 32 := 1#32
  let arg11 : BitVec 32 := Scf.iv c0_i32_71 c1_i32_72 k0_t2
  let v170 : Index := Scalar.indexCast arg11
  let c0_129 : Index := 0#32
  ![0, v170.toNat, 0]
def k0_off5 (k0_t2 : Fin k0_t2_loop.trips) : Fin 3 → Nat :=
  let c0_i32_130 : BitVec 32 := 0#32
  let v176 : Index := Scalar.indexCast c0_i32_130
  let c0_i32_71 : BitVec 32 := 0#32
  let c1_i32_72 : BitVec 32 := 1#32
  let arg11 : BitVec 32 := Scf.iv c0_i32_71 c1_i32_72 k0_t2
  let v177 : Index := Scalar.indexCast arg11
  let c16_134 : Index := 16#32
  ![0, v177.toNat, 16]
def k0_off6 (k0_t2 : Fin k0_t2_loop.trips) : Fin 3 → Nat :=
  let c0_i32_135 : BitVec 32 := 0#32
  let v183 : Index := Scalar.indexCast c0_i32_135
  let c0_i32_71 : BitVec 32 := 0#32
  let c1_i32_72 : BitVec 32 := 1#32
  let arg11 : BitVec 32 := Scf.iv c0_i32_71 c1_i32_72 k0_t2
  let v184 : Index := Scalar.indexCast arg11
  let c32_139 : Index := 32#32
  ![0, v184.toNat, 32]
def k0_off7 (k0_t2 : Fin k0_t2_loop.trips) : Fin 3 → Nat :=
  let c0_i32_140 : BitVec 32 := 0#32
  let v190 : Index := Scalar.indexCast c0_i32_140
  let c0_i32_71 : BitVec 32 := 0#32
  let c1_i32_72 : BitVec 32 := 1#32
  let arg11 : BitVec 32 := Scf.iv c0_i32_71 c1_i32_72 k0_t2
  let v191 : Index := Scalar.indexCast arg11
  let c48_144 : Index := 48#32
  ![0, v191.toNat, 48]
def k0_off8 (k0_t2 : Fin k0_t2_loop.trips) : Fin 3 → Nat :=
  let c0_i32_145 : BitVec 32 := 0#32
  let v197 : Index := Scalar.indexCast c0_i32_145
  let c0_i32_71 : BitVec 32 := 0#32
  let c1_i32_72 : BitVec 32 := 1#32
  let arg11 : BitVec 32 := Scf.iv c0_i32_71 c1_i32_72 k0_t2
  let v198 : Index := Scalar.indexCast arg11
  let c64_149 : Index := 64#32
  ![0, v198.toNat, 64]
def k0_off9 (k0_t2 : Fin k0_t2_loop.trips) : Fin 3 → Nat :=
  let c0_i32_150 : BitVec 32 := 0#32
  let v204 : Index := Scalar.indexCast c0_i32_150
  let c0_i32_71 : BitVec 32 := 0#32
  let c1_i32_72 : BitVec 32 := 1#32
  let arg11 : BitVec 32 := Scf.iv c0_i32_71 c1_i32_72 k0_t2
  let v205 : Index := Scalar.indexCast arg11
  let c80_154 : Index := 80#32
  ![0, v205.toNat, 80]
def k0_off10 (k0_t2 : Fin k0_t2_loop.trips) : Fin 3 → Nat :=
  let c0_i32_155 : BitVec 32 := 0#32
  let v211 : Index := Scalar.indexCast c0_i32_155
  let c0_i32_71 : BitVec 32 := 0#32
  let c1_i32_72 : BitVec 32 := 1#32
  let arg11 : BitVec 32 := Scf.iv c0_i32_71 c1_i32_72 k0_t2
  let v212 : Index := Scalar.indexCast arg11
  let c96_159 : Index := 96#32
  ![0, v212.toNat, 96]
def k0_off11 (k0_t2 : Fin k0_t2_loop.trips) : Fin 3 → Nat :=
  let c0_i32_160 : BitVec 32 := 0#32
  let v218 : Index := Scalar.indexCast c0_i32_160
  let c0_i32_71 : BitVec 32 := 0#32
  let c1_i32_72 : BitVec 32 := 1#32
  let arg11 : BitVec 32 := Scf.iv c0_i32_71 c1_i32_72 k0_t2
  let v219 : Index := Scalar.indexCast arg11
  let c112_164 : Index := 112#32
  ![0, v219.toNat, 112]
def k0_off12 (k0_t2 : Fin k0_t2_loop.trips) : Fin 3 → Nat :=
  let c1_i32_165 : BitVec 32 := 1#32
  let v225 : Index := Scalar.indexCast c1_i32_165
  let c0_i32_71 : BitVec 32 := 0#32
  let c1_i32_72 : BitVec 32 := 1#32
  let arg11 : BitVec 32 := Scf.iv c0_i32_71 c1_i32_72 k0_t2
  let v226 : Index := Scalar.indexCast arg11
  let c0_169 : Index := 0#32
  ![1, v226.toNat, 0]
def k0_off13 (k0_t2 : Fin k0_t2_loop.trips) : Fin 3 → Nat :=
  let c1_i32_170 : BitVec 32 := 1#32
  let v232 : Index := Scalar.indexCast c1_i32_170
  let c0_i32_71 : BitVec 32 := 0#32
  let c1_i32_72 : BitVec 32 := 1#32
  let arg11 : BitVec 32 := Scf.iv c0_i32_71 c1_i32_72 k0_t2
  let v233 : Index := Scalar.indexCast arg11
  let c16_174 : Index := 16#32
  ![1, v233.toNat, 16]
def k0_off14 (k0_t2 : Fin k0_t2_loop.trips) : Fin 3 → Nat :=
  let c1_i32_175 : BitVec 32 := 1#32
  let v239 : Index := Scalar.indexCast c1_i32_175
  let c0_i32_71 : BitVec 32 := 0#32
  let c1_i32_72 : BitVec 32 := 1#32
  let arg11 : BitVec 32 := Scf.iv c0_i32_71 c1_i32_72 k0_t2
  let v240 : Index := Scalar.indexCast arg11
  let c32_179 : Index := 32#32
  ![1, v240.toNat, 32]
def k0_off15 (k0_t2 : Fin k0_t2_loop.trips) : Fin 3 → Nat :=
  let c1_i32_180 : BitVec 32 := 1#32
  let v246 : Index := Scalar.indexCast c1_i32_180
  let c0_i32_71 : BitVec 32 := 0#32
  let c1_i32_72 : BitVec 32 := 1#32
  let arg11 : BitVec 32 := Scf.iv c0_i32_71 c1_i32_72 k0_t2
  let v247 : Index := Scalar.indexCast arg11
  let c48_184 : Index := 48#32
  ![1, v247.toNat, 48]
def k0_off16 (k0_t2 : Fin k0_t2_loop.trips) : Fin 3 → Nat :=
  let c1_i32_185 : BitVec 32 := 1#32
  let v253 : Index := Scalar.indexCast c1_i32_185
  let c0_i32_71 : BitVec 32 := 0#32
  let c1_i32_72 : BitVec 32 := 1#32
  let arg11 : BitVec 32 := Scf.iv c0_i32_71 c1_i32_72 k0_t2
  let v254 : Index := Scalar.indexCast arg11
  let c64_189 : Index := 64#32
  ![1, v254.toNat, 64]
def k0_off17 (k0_t2 : Fin k0_t2_loop.trips) : Fin 3 → Nat :=
  let c1_i32_190 : BitVec 32 := 1#32
  let v260 : Index := Scalar.indexCast c1_i32_190
  let c0_i32_71 : BitVec 32 := 0#32
  let c1_i32_72 : BitVec 32 := 1#32
  let arg11 : BitVec 32 := Scf.iv c0_i32_71 c1_i32_72 k0_t2
  let v261 : Index := Scalar.indexCast arg11
  let c80_194 : Index := 80#32
  ![1, v261.toNat, 80]
def k0_off18 (k0_t2 : Fin k0_t2_loop.trips) : Fin 3 → Nat :=
  let c1_i32_195 : BitVec 32 := 1#32
  let v267 : Index := Scalar.indexCast c1_i32_195
  let c0_i32_71 : BitVec 32 := 0#32
  let c1_i32_72 : BitVec 32 := 1#32
  let arg11 : BitVec 32 := Scf.iv c0_i32_71 c1_i32_72 k0_t2
  let v268 : Index := Scalar.indexCast arg11
  let c96_199 : Index := 96#32
  ![1, v268.toNat, 96]
def k0_off19 (k0_t2 : Fin k0_t2_loop.trips) : Fin 3 → Nat :=
  let c1_i32_200 : BitVec 32 := 1#32
  let v274 : Index := Scalar.indexCast c1_i32_200
  let c0_i32_71 : BitVec 32 := 0#32
  let c1_i32_72 : BitVec 32 := 1#32
  let arg11 : BitVec 32 := Scf.iv c0_i32_71 c1_i32_72 k0_t2
  let v275 : Index := Scalar.indexCast arg11
  let c112_204 : Index := 112#32
  ![1, v275.toNat, 112]
def k0_off20 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v55 : Index := Scalar.indexCast v14
  let c0 : Index := 0#32
  ![v55.toNat, 0]
def k0_off21 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v60 : Index := Scalar.indexCast v14
  let c16 : Index := 16#32
  ![v60.toNat, 16]
def k0_off22 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v65 : Index := Scalar.indexCast v14
  let c32 : Index := 32#32
  ![v65.toNat, 32]
def k0_off23 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v70 : Index := Scalar.indexCast v14
  let c48 : Index := 48#32
  ![v70.toNat, 48]
def k0_off24 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v75 : Index := Scalar.indexCast v14
  let c64 : Index := 64#32
  ![v75.toNat, 64]
def k0_off25 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v80 : Index := Scalar.indexCast v14
  let c80 : Index := 80#32
  ![v80.toNat, 80]
def k0_off26 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v85 : Index := Scalar.indexCast v14
  let c96 : Index := 96#32
  ![v85.toNat, 96]
def k0_off27 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let v90 : Index := Scalar.indexCast v14
  let c112 : Index := 112#32
  ![v90.toNat, 112]
def k0_cond1 (k0_t1 : Fin k0_t1_loop.trips) : BitVec 1 :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c2_i32_74 : BitVec 32 := 2#32
  let v94 : BitVec 32 := Scalar.addi v14 c2_i32_74
  let c128_i32_75 : BitVec 32 := 128#32
  let v95 : BitVec 1 := Scalar.cmpi .slt v94 c128_i32_75
  let v96 : BitVec 32 := Scalar.extui v95
  let c0_i32_76 : BitVec 32 := 0#32
  let v97 : BitVec 1 := Scalar.cmpi .ne v96 c0_i32_76
  v97

def k0_off28 (k0_t1 : Fin k0_t1_loop.trips) : Fin 3 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c2_i32_125 : BitVec 32 := 2#32
  let v167 : BitVec 32 := Scalar.addi v14 c2_i32_125
  let c0_i32_126 : BitVec 32 := 0#32
  let c0_i32_131 : BitVec 32 := 0#32
  ![v167.toNat, 0, 0]
def k0_off29 (k0_t1 : Fin k0_t1_loop.trips) : Fin 3 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c2_i32_125 : BitVec 32 := 2#32
  let v167 : BitVec 32 := Scalar.addi v14 c2_i32_125
  let c1_i32_134 : BitVec 32 := 1#32
  let c0_i32_139 : BitVec 32 := 0#32
  ![v167.toNat, 1, 0]
@[reducible] def k0_t3_loop : Scf.Loop 32 :=
  let c0_i32_113 : BitVec 32 := 0#32
  let c104_i32_114 : BitVec 32 := 104#32
  let v125 : BitVec 32 := Scalar.addi c0_i32_113 c104_i32_114
  let c1_i32_115 : BitVec 32 := 1#32
  ⟨c0_i32_113, v125, c1_i32_115⟩
def k0_off30 (k0_t3 : Fin k0_t3_loop.trips) : Fin 3 → Nat :=
  let c0_i32_125 : BitVec 32 := 0#32
  let v169 : Index := Scalar.indexCast c0_i32_125
  let c0_i32_113 : BitVec 32 := 0#32
  let c1_i32_115 : BitVec 32 := 1#32
  let arg11 : BitVec 32 := Scf.iv c0_i32_113 c1_i32_115 k0_t3
  let v170 : Index := Scalar.indexCast arg11
  let c0_129 : Index := 0#32
  ![0, v170.toNat, 0]
def k0_off31 (k0_t3 : Fin k0_t3_loop.trips) : Fin 3 → Nat :=
  let c0_i32_130 : BitVec 32 := 0#32
  let v176 : Index := Scalar.indexCast c0_i32_130
  let c0_i32_113 : BitVec 32 := 0#32
  let c1_i32_115 : BitVec 32 := 1#32
  let arg11 : BitVec 32 := Scf.iv c0_i32_113 c1_i32_115 k0_t3
  let v177 : Index := Scalar.indexCast arg11
  let c16_134 : Index := 16#32
  ![0, v177.toNat, 16]
def k0_off32 (k0_t3 : Fin k0_t3_loop.trips) : Fin 3 → Nat :=
  let c0_i32_135 : BitVec 32 := 0#32
  let v183 : Index := Scalar.indexCast c0_i32_135
  let c0_i32_113 : BitVec 32 := 0#32
  let c1_i32_115 : BitVec 32 := 1#32
  let arg11 : BitVec 32 := Scf.iv c0_i32_113 c1_i32_115 k0_t3
  let v184 : Index := Scalar.indexCast arg11
  let c32_139 : Index := 32#32
  ![0, v184.toNat, 32]
def k0_off33 (k0_t3 : Fin k0_t3_loop.trips) : Fin 3 → Nat :=
  let c0_i32_140 : BitVec 32 := 0#32
  let v190 : Index := Scalar.indexCast c0_i32_140
  let c0_i32_113 : BitVec 32 := 0#32
  let c1_i32_115 : BitVec 32 := 1#32
  let arg11 : BitVec 32 := Scf.iv c0_i32_113 c1_i32_115 k0_t3
  let v191 : Index := Scalar.indexCast arg11
  let c48_144 : Index := 48#32
  ![0, v191.toNat, 48]
def k0_off34 (k0_t3 : Fin k0_t3_loop.trips) : Fin 3 → Nat :=
  let c0_i32_145 : BitVec 32 := 0#32
  let v197 : Index := Scalar.indexCast c0_i32_145
  let c0_i32_113 : BitVec 32 := 0#32
  let c1_i32_115 : BitVec 32 := 1#32
  let arg11 : BitVec 32 := Scf.iv c0_i32_113 c1_i32_115 k0_t3
  let v198 : Index := Scalar.indexCast arg11
  let c64_149 : Index := 64#32
  ![0, v198.toNat, 64]
def k0_off35 (k0_t3 : Fin k0_t3_loop.trips) : Fin 3 → Nat :=
  let c0_i32_150 : BitVec 32 := 0#32
  let v204 : Index := Scalar.indexCast c0_i32_150
  let c0_i32_113 : BitVec 32 := 0#32
  let c1_i32_115 : BitVec 32 := 1#32
  let arg11 : BitVec 32 := Scf.iv c0_i32_113 c1_i32_115 k0_t3
  let v205 : Index := Scalar.indexCast arg11
  let c80_154 : Index := 80#32
  ![0, v205.toNat, 80]
def k0_off36 (k0_t3 : Fin k0_t3_loop.trips) : Fin 3 → Nat :=
  let c0_i32_155 : BitVec 32 := 0#32
  let v211 : Index := Scalar.indexCast c0_i32_155
  let c0_i32_113 : BitVec 32 := 0#32
  let c1_i32_115 : BitVec 32 := 1#32
  let arg11 : BitVec 32 := Scf.iv c0_i32_113 c1_i32_115 k0_t3
  let v212 : Index := Scalar.indexCast arg11
  let c96_159 : Index := 96#32
  ![0, v212.toNat, 96]
def k0_off37 (k0_t3 : Fin k0_t3_loop.trips) : Fin 3 → Nat :=
  let c0_i32_160 : BitVec 32 := 0#32
  let v218 : Index := Scalar.indexCast c0_i32_160
  let c0_i32_113 : BitVec 32 := 0#32
  let c1_i32_115 : BitVec 32 := 1#32
  let arg11 : BitVec 32 := Scf.iv c0_i32_113 c1_i32_115 k0_t3
  let v219 : Index := Scalar.indexCast arg11
  let c112_164 : Index := 112#32
  ![0, v219.toNat, 112]
def k0_off38 (k0_t3 : Fin k0_t3_loop.trips) : Fin 3 → Nat :=
  let c1_i32_165 : BitVec 32 := 1#32
  let v225 : Index := Scalar.indexCast c1_i32_165
  let c0_i32_113 : BitVec 32 := 0#32
  let c1_i32_115 : BitVec 32 := 1#32
  let arg11 : BitVec 32 := Scf.iv c0_i32_113 c1_i32_115 k0_t3
  let v226 : Index := Scalar.indexCast arg11
  let c0_169 : Index := 0#32
  ![1, v226.toNat, 0]
def k0_off39 (k0_t3 : Fin k0_t3_loop.trips) : Fin 3 → Nat :=
  let c1_i32_170 : BitVec 32 := 1#32
  let v232 : Index := Scalar.indexCast c1_i32_170
  let c0_i32_113 : BitVec 32 := 0#32
  let c1_i32_115 : BitVec 32 := 1#32
  let arg11 : BitVec 32 := Scf.iv c0_i32_113 c1_i32_115 k0_t3
  let v233 : Index := Scalar.indexCast arg11
  let c16_174 : Index := 16#32
  ![1, v233.toNat, 16]
def k0_off40 (k0_t3 : Fin k0_t3_loop.trips) : Fin 3 → Nat :=
  let c1_i32_175 : BitVec 32 := 1#32
  let v239 : Index := Scalar.indexCast c1_i32_175
  let c0_i32_113 : BitVec 32 := 0#32
  let c1_i32_115 : BitVec 32 := 1#32
  let arg11 : BitVec 32 := Scf.iv c0_i32_113 c1_i32_115 k0_t3
  let v240 : Index := Scalar.indexCast arg11
  let c32_179 : Index := 32#32
  ![1, v240.toNat, 32]
def k0_off41 (k0_t3 : Fin k0_t3_loop.trips) : Fin 3 → Nat :=
  let c1_i32_180 : BitVec 32 := 1#32
  let v246 : Index := Scalar.indexCast c1_i32_180
  let c0_i32_113 : BitVec 32 := 0#32
  let c1_i32_115 : BitVec 32 := 1#32
  let arg11 : BitVec 32 := Scf.iv c0_i32_113 c1_i32_115 k0_t3
  let v247 : Index := Scalar.indexCast arg11
  let c48_184 : Index := 48#32
  ![1, v247.toNat, 48]
def k0_off42 (k0_t3 : Fin k0_t3_loop.trips) : Fin 3 → Nat :=
  let c1_i32_185 : BitVec 32 := 1#32
  let v253 : Index := Scalar.indexCast c1_i32_185
  let c0_i32_113 : BitVec 32 := 0#32
  let c1_i32_115 : BitVec 32 := 1#32
  let arg11 : BitVec 32 := Scf.iv c0_i32_113 c1_i32_115 k0_t3
  let v254 : Index := Scalar.indexCast arg11
  let c64_189 : Index := 64#32
  ![1, v254.toNat, 64]
def k0_off43 (k0_t3 : Fin k0_t3_loop.trips) : Fin 3 → Nat :=
  let c1_i32_190 : BitVec 32 := 1#32
  let v260 : Index := Scalar.indexCast c1_i32_190
  let c0_i32_113 : BitVec 32 := 0#32
  let c1_i32_115 : BitVec 32 := 1#32
  let arg11 : BitVec 32 := Scf.iv c0_i32_113 c1_i32_115 k0_t3
  let v261 : Index := Scalar.indexCast arg11
  let c80_194 : Index := 80#32
  ![1, v261.toNat, 80]
def k0_off44 (k0_t3 : Fin k0_t3_loop.trips) : Fin 3 → Nat :=
  let c1_i32_195 : BitVec 32 := 1#32
  let v267 : Index := Scalar.indexCast c1_i32_195
  let c0_i32_113 : BitVec 32 := 0#32
  let c1_i32_115 : BitVec 32 := 1#32
  let arg11 : BitVec 32 := Scf.iv c0_i32_113 c1_i32_115 k0_t3
  let v268 : Index := Scalar.indexCast arg11
  let c96_199 : Index := 96#32
  ![1, v268.toNat, 96]
def k0_off45 (k0_t3 : Fin k0_t3_loop.trips) : Fin 3 → Nat :=
  let c1_i32_200 : BitVec 32 := 1#32
  let v274 : Index := Scalar.indexCast c1_i32_200
  let c0_i32_113 : BitVec 32 := 0#32
  let c1_i32_115 : BitVec 32 := 1#32
  let arg11 : BitVec 32 := Scf.iv c0_i32_113 c1_i32_115 k0_t3
  let v275 : Index := Scalar.indexCast arg11
  let c112_204 : Index := 112#32
  ![1, v275.toNat, 112]
def k0_off46 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v128 : Index := Scalar.indexCast v108
  let c0_117 : Index := 0#32
  ![v128.toNat, 0]
def k0_off47 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v133 : Index := Scalar.indexCast v108
  let c16_118 : Index := 16#32
  ![v133.toNat, 16]
def k0_off48 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v138 : Index := Scalar.indexCast v108
  let c32_119 : Index := 32#32
  ![v138.toNat, 32]
def k0_off49 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v143 : Index := Scalar.indexCast v108
  let c48_120 : Index := 48#32
  ![v143.toNat, 48]
def k0_off50 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v148 : Index := Scalar.indexCast v108
  let c64_121 : Index := 64#32
  ![v148.toNat, 64]
def k0_off51 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v153 : Index := Scalar.indexCast v108
  let c80_122 : Index := 80#32
  ![v153.toNat, 80]
def k0_off52 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v158 : Index := Scalar.indexCast v108
  let c96_123 : Index := 96#32
  ![v158.toNat, 96]
def k0_off53 (k0_t1 : Fin k0_t1_loop.trips) : Fin 2 → Nat :=
  let c0_i32_16 : BitVec 32 := 0#32
  let c1_i32_17 : BitVec 32 := 1#32
  let arg10 : BitVec 32 := Scf.iv c0_i32_16 c1_i32_17 k0_t1
  let c2_i32_19 : BitVec 32 := 2#32
  let v14 : BitVec 32 := Scalar.muli arg10 c2_i32_19
  let c1_i32_95 : BitVec 32 := 1#32
  let v108 : BitVec 32 := Scalar.addi v14 c1_i32_95
  let v163 : Index := Scalar.indexCast v108
  let c112_124 : Index := 112#32
  ![v163.toNat, 112]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_19_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100000x128 : Shape := ⟨2, ![100000, 128]⟩
abbrev S128x2048 : Shape := ⟨2, ![128, 2048]⟩
abbrev S2048 : Shape := ⟨1, ![2048]⟩
abbrev S2048x1024 : Shape := ⟨2, ![2048, 1024]⟩
abbrev S1024 : Shape := ⟨1, ![1024]⟩
abbrev S1024x2048 : Shape := ⟨2, ![1024, 2048]⟩
abbrev S2048x128 : Shape := ⟨2, ![2048, 128]⟩
abbrev S128 : Shape := ⟨1, ![128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096 : Shape := ⟨1, ![4096]⟩
abbrev S4096x1 : Shape := ⟨2, ![4096, 1]⟩
abbrev S4096x128 : Shape := ⟨2, ![4096, 128]⟩
abbrev S4096x2048 : Shape := ⟨2, ![4096, 2048]⟩
abbrev S1x2048 : Shape := ⟨2, ![1, 2048]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S128x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x128, .f32⟩
  | .hbm, ⟨9, _⟩ => ⟨S128, .f32⟩
  | .hbm, ⟨10, _⟩ => ⟨S_, .i32⟩
  | .hbm, ⟨11, _⟩ => ⟨S4096x200, .i32⟩
  | .hbm, ⟨12, _⟩ => ⟨S4096x200, .i1⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S4096x200, .i32⟩
  | .hbm, ⟨17, _⟩ => ⟨S4096x200x1, .i32⟩
  | .hbm, ⟨18, _⟩ => ⟨S1, .i32⟩
  | .hbm, ⟨19, _⟩ => ⟨S_, .i32⟩
  | .hbm, ⟨20, _⟩ => ⟨S4096x200x1, .i32⟩
  | .hbm, ⟨21, _⟩ => ⟨S4096x200x1, .i1⟩
  | .hbm, ⟨22, _⟩ => ⟨S1x1x1, .i32⟩
  | .hbm, ⟨23, _⟩ => ⟨S4096x200x1, .i32⟩
  | .hbm, ⟨24, _⟩ => ⟨S4096x200x1, .i1⟩
  | .hbm, ⟨25, _⟩ => ⟨S4096x200x1, .i1⟩
  | .hbm, ⟨26, _⟩ => ⟨S_, .i1⟩
  | .hbm, ⟨27, _⟩ => ⟨S4096x200, .i1⟩
  | .hbm, ⟨28, _⟩ => ⟨S4096x200x128, .f32⟩
  | .hbm, ⟨29, _⟩ => ⟨S4096x200x128, .i1⟩
  | .hbm, ⟨30, _⟩ => ⟨S_, .f32⟩
  | .hbm, ⟨31, _⟩ => ⟨S4096x200x128, .f32⟩
  | .hbm, ⟨32, _⟩ => ⟨S4096x200x128, .f32⟩
  | .hbm, ⟨33, _⟩ => ⟨S_, .i32⟩
  | .hbm, ⟨34, _⟩ => ⟨S4096x200, .i32⟩
  | .hbm, ⟨35, _⟩ => ⟨S4096x200, .i1⟩
  | .hbm, ⟨36, _⟩ => ⟨S4096x200, .i32⟩
  | .hbm, ⟨37, _⟩ => ⟨S_, .i32⟩
  | .hbm, ⟨38, _⟩ => ⟨S4096, .i32⟩
  | .hbm, ⟨39, _⟩ => ⟨S4096x1, .i32⟩
  | .hbm, ⟨40, _⟩ => ⟨S4096x1, .f32⟩
  | .hbm, ⟨41, _⟩ => ⟨S_, .f32⟩
  | .hbm, ⟨42, _⟩ => ⟨S4096x128, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x128, .f32⟩
  | .hbm, ⟨47, _⟩ => ⟨S4096x128, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x128, .f32⟩
  | .hbm, ⟨70, _⟩ => ⟨S1x128, .f32⟩
  | .hbm, ⟨71, _⟩ => ⟨S4096x128, .f32⟩
  | .hbm, ⟨72, _⟩ => ⟨S4096x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_c_0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_call2_cst : Ref sig .tc := ⟨.hbm, 52, rfl⟩
abbrev main_call2_v0 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_call3_cst : Ref sig .tc := ⟨.hbm, 59, rfl⟩
abbrev main_call3_v0 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_call4_cst : Ref sig .tc := ⟨.hbm, 66, rfl⟩
abbrev main_call4_v0 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Proof.Pair.lean ====
/-
  Two indirect gathers started on one DMA semaphore before either is waited for.

  Both gathers of a pair signal the same counter, so a wait that fires after the first gather's amount says nothing
  about either destination: the units may be instalments of both. Only the second wait knows that every row of both
  gathers has landed. The rows of the two gathers are therefore counted together, as the transfers of one batch:
  each gather's row is one transfer of `K` units, the batch has the rows of the first and then of the second.
-/
module

public import Idealize.ShloMosaic.Lib.Batch
public import Idealize.ShloMosaic.Lib.SparseCore.Stream

@[expose] public section

noncomputable section

namespace Cert.Pair

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section One

variable (src : Memref sig c.2.kind sp s₀ e) (dst : Memref sig c.2.kind .vmem s e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))
  (hin : ∀ x, (offs.view.read (Elt F) fo x).toNat < s₀.size hg.axis)

/-- The source's row that entry `j` of the list names. -/
def rowRead (j : Fin (s.size hg.axis')) : (s.rowShape hg.axis').Idx → Elt F e :=
  fun i => src.view.read (Elt F) fs (hg.rowIdx (rows (offs.view.read (Elt F) fo) hn hin j) i)

/-- What the row `j` of a gather hands back when it has landed: the destination's row holding the source's row that
    entry `j` of the list names, that entry of the list, and the piece of the source's share the row was read at. -/
def rowBack (ho : 0 < s.size hg.axis') (j : Fin (s.size hg.axis')) : sProp 𝕄 :=
  iprop(((dst.view.loc c ↦[(dst.view.slice (s.rowRect hg.axis' j)).set]{fullShare}
            ((dst.view.slice (s.rowRect hg.axis' j)).write (Elt F) fd
              (rowRead c src hg offs hn fs fo hin j) Finset.univ))
        ∗ (offs.view.loc c ↦[{offs.view.emb (si.rowMajor.symm (j.cast hn.symm))}]{qo} fo))
      ∗ (src.view.loc c ↦[src.view.set]{pieceOf q _ ho j} fs))

/-- What a whole gather hands back: the destination holding, at row `j`, the source's row that entry `j` of the list
    names; the source's share; the list's share. -/
def gatherBack : sProp 𝕄 :=
  iprop((dst.view.loc c ↦[dst.view.set]{fullShare}
            (dst.view.write (Elt F) fd (gatherPayload hg (src.view.read (Elt F) fs) (rows (offs.view.read (Elt F) fo) hn hin)) Finset.univ))
      ∗ (src.view.loc c ↦[src.view.set]{q} fs) ∗ (offs.view.loc c ↦[offs.view.set]{qo} fo))

/-- What one row gives back may be stored in an invariant. -/
instance rowBack_storable (ho : 0 < s.size hg.axis') (j : Fin (s.size hg.axis')) :
    Storable (upEmb : UEmb _ 𝕄) (rowBack (Ix := Ix) (Name := Name) (U := U) (Lvl := Lvl) c src dst hg offs hn q qo fs fd fo hin ho j) := by
  unfold rowBack; infer_instance

omit [Preorder Lvl] in
/-- The list's entries are its elements, each once. -/
theorem entries_bij : Function.Bijective (fun j : Fin (s.size hg.axis') => si.rowMajor.symm (j.cast hn.symm)) :=
  si.rowMajor.symm.bijective.comp (finCongr hn.symm).bijective

/-- Every row landed is the whole gather landed. -/
theorem gatherBack_of_rows (ho : 0 < s.size hg.axis') :
    bigSep Finset.univ (rowBack (Ix := Ix) (Name := Name) (U := U) (Lvl := Lvl) c src dst hg offs hn q qo fs fd fo hin ho)
      ⊢ gatherBack c src dst hg offs hn q qo fs fd fo hin := by
  unfold rowBack gatherBack
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd
      (rowRead c src hg offs hn fs fo hin)
      (gatherPayload hg (src.view.read (Elt F) fs) (rows (offs.view.read (Elt F) fo) hn hin))
      (fun j i => by unfold gatherPayload rowRead; rw [Shape.Gathers.idx_rowRect_emb])) $$ Hrows
  isplitl [Hsrc]; · iapply (Entails.of_eq (pointsTo_piecesOf (src.view.set) fs ho q).symm) $$ Hsrc
  iapply (Entails.of_eq (pointsTo_entries c offs.view _ (entries_bij hg hn) qo fo).symm) $$ Hoffs

end One

/-- ONE of several gathers counted together: the rows of the gather are the transfers `t j` of a batch of `n` transfers
    of `K` units on the gather's cell. Holding those transfers' issue rights, a share of the source, the destination
    outright and a share of the list whose words are all in range, the tile starts the gather and goes on with the
    credit of its rows. -/
theorem wp_gatherCounted [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (K N : ℕ) (hK : ∀ j, (dst.slice (s.rowRect hg.axis' j) (s.stride_rowRect hg.axis' j)).view.dmaCredit = K)
    (hN : s.size hg.axis' * K = N)
    (ho : 0 < s.size hg.axis') (hin : ∀ x, (offs.view.read (Elt F) fo x).toNat < s₀.size hg.axis)
    {n : ℕ} {D : Fin n → sProp 𝕄} {γ : Fin n → ℕ} {γ₀ : ℕ} {κ : Name} (t : Fin (s.size hg.axis') → Fin n)
    (hD : ∀ j, rowBack c src dst hg offs hn q qo fs fd fo hin ho j ⊢ D (t j)) :
    iprop(inv κ (Transfers.batchBody EC (c, SemLoc.dma sem) K D γ γ₀)
        ∗ (src.view.loc c ↦[src.view.set]{q} fs) ∗ (dst.view.loc c ↦[dst.view.set]{fullShare} fd)
        ∗ (offs.view.loc c ↦[offs.view.set]{qo} fo) ∗ bigSep Finset.univ fun j => count EC (γ (t j)) 0)
      ⊢ iprop((cred (tallyAt (c, SemLoc.dma sem) ι N) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hagree : S.RowsAgree := by
    intro j x x' ρ ρ' h h'
    obtain ⟨_, _, rfl⟩ := Option.map_eq_some_iff.mp h
    obtain ⟨_, _, rfl⟩ := Option.map_eq_some_iff.mp h'
    rfl
  have hword : ∀ j, S.row j (S.word fo j) = some (rd j) := fun j => by
    change (rowOf (s₀.size hg.axis) (offs.view.read (Elt F) fo (S.entry j))).map _ = _
    rw [rowOf_of_lt (hin _)]; rfl
  have htotal : ∑ j, (rd j).dst.view.dmaCredit = N := sum_rowCredit_eq _ hK hN
  have hentry : ∀ j, iprop(inv κ (Transfers.batchBody EC (c, SemLoc.dma sem) K D γ γ₀)
        ∗ ((((dst.view.loc c ↦[(dst.view.slice (s.rowRect hg.axis' j)).set]{fullShare} fd) ∗ S.heldEntry qo fo j)
        ∗ (src.view.loc c ↦[src.view.set]{pieceOf q _ ho j} fs)) ∗ count EC (γ (t j)) 0))
      ⊢ iprop(S.heldEntry qo fo j ∗ (S.heldEntry qo fo j -∗ rowRes c (rd j))) := fun j => by
    iintro ⟨#Hinv, ⟨⟨Hr, He⟩, Hsq⟩, Hc⟩
    isplitl [He]; · iexact He
    iintro He
    unfold rowRes
    iexists pieceOf q _ ho j, fs, iprop((dst.view.loc c ↦[(dst.view.slice (s.rowRect hg.axis' j)).set]{fullShare}
      ((dst.view.slice (s.rowRect hg.axis' j)).write (Elt F) fd
        (rowRead c src hg offs hn fs fo hin j) Finset.univ)) ∗ S.heldEntry qo fo j)
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · ihave H := (Transfers.batch_creditUpdate EC (γ := γ) (γ₀ := γ₀) (N := K) (ι := κ) (t j) (hD j)) $$ [Hc]
      · isplitr; · iexact Hinv
        iexact Hc
      iapply (Entails.of_eq (show creditUpdate (c, SemLoc.dma sem) K 0 (rowBack c src dst hg offs hn q qo fs fd fo hin ho j)
        = creditUpdate (c, SemLoc.dma sem) ((rd j).dst.view.amount (.dma sem)) 0 (rowBack c src dst hg offs hn q qo fs fd fo hin ho j) from
          congrArg (fun N => creditUpdate (c, SemLoc.dma sem) N 0 _) (hK j).symm)) $$ H
  iintro ⟨#Hinv, Hs, Hd, Ho, Hγ⟩ Hk
  ihave Hd' := (Entails.of_eq (pointsTo_rows c dst.view hg.axis' fullShare fd)) $$ Hd
  ihave Ho' := (Entails.of_eq (pointsTo_entries c offs.view S.entry (entries_bij hg hn) qo fo)) $$ Ho
  ihave Hs' := (Entails.of_eq (pointsTo_piecesOf (src.view.set) fs ho q)) $$ Hs
  iapply (wp_enqueueIndirectDma 𝒱 c bd Set.univ (qo := qo) (fo := fo) (rd := rd) ι N hagree hword htotal) $$ [Hd' Ho' Hs' Hγ]
  · unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hentry j)
    isplitr; · iexact Hinv
    iexact H3
  · iexact Hk

/-- A pair of gathers of `o` rows each in flight on the cell `sm`, `u` of their units waited for: once all are, `D`. -/
def InFlight (sm : SemLoc sig) (ι : Ix) (K o : ℕ) (D : sProp 𝕄) (u : ℕ) : sProp 𝕄 :=
  iprop(∃ E : Fin (o + o) → sProp 𝕄, ⌜bigSep Finset.univ E ⊢ D⌝ ∗ Transfers.Batch EC c sm ι K E (o + o) u)

/-- The family that is `f` on the first `o` numbers and `g` on the last. -/
def both {o : ℕ} (f g : Fin o → sProp 𝕄) : Fin (o + o) → sProp 𝕄 := fun t => Sum.elim f g (finSumFinEquiv.symm t)

/-- So may what the rows of both copies give back. -/
instance both_storable {o : ℕ} (f g : Fin o → sProp 𝕄) [hf : ∀ j, Storable (upEmb : UEmb _ 𝕄) (f j)]
    [hg : ∀ j, Storable (upEmb : UEmb _ 𝕄) (g j)] (t : Fin (o + o)) : Storable (upEmb : UEmb _ 𝕄) (both f g t) := by
  unfold both
  cases h : finSumFinEquiv.symm t with
  | inl j => exact hf j
  | inr j => exact hg j

omit [Preorder Lvl] in
/-- A family over the `o + o` rows of a pair is its first half and its second half. -/
theorem bigSep_both {o : ℕ} (Φ : Fin (o + o) → sProp 𝕄) :
    bigSep Finset.univ Φ = iprop(bigSep Finset.univ (fun j : Fin o => Φ (finSumFinEquiv (.inl j)))
      ∗ bigSep Finset.univ (fun j : Fin o => Φ (finSumFinEquiv (.inr j)))) := by
  rw [Idealize.SL.BI.bigSep_univ_equiv finSumFinEquiv, Idealize.SL.BI.bigSep_univ_sum]; rfl

/-- A PAIR of gathers on one cell, from the cell at zero: the tile starts both and goes on with the pair in flight, which
    hands back what both gathers hand back. -/
theorem wp_gatherPair [Infinite Name] [EC.LandsIn (upEmb : UEmb _ 𝕄)]
    {src₁ src₂ : Memref sig c.2.kind sp s₀ e} {dst₁ dst₂ : Memref sig c.2.kind .vmem s e} {hg : s₀.Gathers a s}
    {offs₁ offs₂ : Memref sig c.2.kind .vmem si .i32} {hn : si.numel = s.size hg.axis'} {sem : DmaSem sig}
    {hp : c.2.kind = .scVector} {hsrc₁ : src₁.view.WordExact} {hsrc₂ : src₂.view.WordExact}
    {he : e.bits = 32} {hsp : sp = .hbm ∨ sp = .shared} {hr : s₀.StreamRows a}
    {k : PUnit → Prog (TpuEff nD τ sig (Elt F) Λ c.2) α}
    {q₁ qo₁ : PosShare TreeShare} {fs₁ : Buf (Elt F) (src₁.view.loc c)} {fd₁ : Buf (Elt F) (dst₁.view.loc c)} {fo₁ : Buf (Elt F) (offs₁.view.loc c)}
    {q₂ qo₂ : PosShare TreeShare} {fs₂ : Buf (Elt F) (src₂.view.loc c)} {fd₂ : Buf (Elt F) (dst₂.view.loc c)} {fo₂ : Buf (Elt F) (offs₂.view.loc c)}
    (ι : Ix) (K : ℕ) (ho : 0 < s.size hg.axis')
    (hK₁ : ∀ j, (dst₁.slice (s.rowRect hg.axis' j) (s.stride_rowRect hg.axis' j)).view.dmaCredit = K)
    (hK₂ : ∀ j, (dst₂.slice (s.rowRect hg.axis' j) (s.stride_rowRect hg.axis' j)).view.dmaCredit = K)
    (hin₁ : ∀ x, (offs₁.view.read (Elt F) fo₁ x).toNat < s₀.size hg.axis)
    (hin₂ : ∀ x, (offs₂.view.read (Elt F) fo₂ x).toNat < s₀.size hg.axis) :
    iprop(((src₁.view.loc c ↦[src₁.view.set]{q₁} fs₁) ∗ (dst₁.view.loc c ↦[dst₁.view.set]{fullShare} fd₁) ∗ (offs₁.view.loc c ↦[offs₁.view.set]{qo₁} fo₁))
        ∗ ((src₂.view.loc c ↦[src₂.view.set]{q₂} fs₂) ∗ (dst₂.view.loc c ↦[dst₂.view.set]{fullShare} fd₂) ∗ (offs₂.view.loc c ↦[offs₂.view.set]{qo₂} fo₂))
        ∗ semVal (c, SemLoc.dma sem) 0)
      ⊢ iprop((InFlight EC c (.dma sem) ι K (s.size hg.axis')
                  iprop(gatherBack c src₁ dst₁ hg offs₁ hn q₁ qo₁ fs₁ fd₁ fo₁ hin₁ ∗ gatherBack c src₂ dst₂ hg offs₂ hn q₂ qo₂ fs₂ fd₂ fo₂ hin₂) 0
                -∗ wp frame (wpE defs 𝒱 c bd) Set.univ (k ⟨⟩) Q)
          -∗ wp frame (wpE defs 𝒱 c bd) Set.univ
              (enqueueIndirectGather hp src₁ dst₁ hg offs₁ hn sem hsrc₁ he hsp hr >>= fun _ =>
                enqueueIndirectGather hp src₂ dst₂ hg offs₂ hn sem hsrc₂ he hsp hr >>= k) Q) := by
  let f := rowBack (Ix := Ix) (Name := Name) (U := U) (Lvl := Lvl) c src₁ dst₁ hg offs₁ hn q₁ qo₁ fs₁ fd₁ fo₁ hin₁ ho
  let g := rowBack (Ix := Ix) (Name := Name) (U := U) (Lvl := Lvl) c src₂ dst₂ hg offs₂ hn q₂ qo₂ fs₂ fd₂ fo₂ hin₂ ho
  have hf : ∀ j, both f g (finSumFinEquiv (.inl j)) = f j := fun j => by unfold both; rw [Equiv.symm_apply_apply]; rfl
  have hg' : ∀ j, both f g (finSumFinEquiv (.inr j)) = g j := fun j => by unfold both; rw [Equiv.symm_apply_apply]; rfl
  iintro ⟨⟨Hs1, Hd1, Ho1⟩, ⟨Hs2, Hd2, Ho2⟩, Hv⟩ Hk
  imod (Transfers.batch_alloc EC K (both f g) (g := (c, SemLoc.dma sem)) (E := Set.univ)) $$ Hv with ⟨%γ, %γ₀, %κ, #Hinv, H0, Hc⟩
  ihave Hc' := (Entails.of_eq (bigSep_both (fun t => count EC (γ t) 0))) $$ Hc
  icases Hc' with ⟨Hc1, Hc2⟩
  iapply (wp_gatherCounted EC 𝒱 c bd (n := s.size hg.axis' + s.size hg.axis') (D := both f g) (γ := γ) (γ₀ := γ₀) (κ := κ)
    ι K _ hK₁ rfl ho hin₁ (fun j => finSumFinEquiv (.inl j)) (fun j => Entails.of_eq (hf j).symm)) $$ [Hs1 Hd1 Ho1 Hc1]
  · isplitr; · iexact Hinv
    isplitl [Hs1]; · iexact Hs1
    isplitl [Hd1]; · iexact Hd1
    isplitl [Ho1] <;> iassumption
  iintro Hcr1
  iapply (wp_gatherCounted EC 𝒱 c bd (n := s.size hg.axis' + s.size hg.axis') (D := both f g) (γ := γ) (γ₀ := γ₀) (κ := κ)
    ι K _ hK₂ rfl ho hin₂ (fun j => finSumFinEquiv (.inr j)) (fun j => Entails.of_eq (hg' j).symm)) $$ [Hs2 Hd2 Ho2 Hc2]
  · isplitr; · iexact Hinv
    isplitl [Hs2]; · iexact Hs2
    isplitl [Hd2]; · iexact Hd2
    isplitl [Ho2] <;> iassumption
  iintro Hcr2
  iapply Hk
  unfold InFlight
  iexists both f g
  isplitr
  · ipureintro
    rw [bigSep_both]
    refine sep_mono ?_ ?_
    · exact (Entails.of_eq (Idealize.SL.BI.bigSep_congr fun j _ => hf j)).trans (gatherBack_of_rows c src₁ dst₁ hg offs₁ hn q₁ qo₁ fs₁ fd₁ fo₁ hin₁ ho)
    · exact (Entails.of_eq (Idealize.SL.BI.bigSep_congr fun j _ => hg' j)).trans (gatherBack_of_rows c src₂ dst₂ hg offs₂ hn q₂ qo₂ fs₂ fd₂ fo₂ hin₂ ho)
  unfold Transfers.Batch
  iexists γ, γ₀, κ
  isplitr; · iexact Hinv
  isplitr
  · rw [show Transfers.pending (n := s.size hg.axis' + s.size hg.axis') (s.size hg.axis' + s.size hg.axis') = ∅ from
      Finset.filter_false_of_mem fun t _ => not_le.mpr t.isLt, Idealize.SL.BI.bigSep_empty]
    iempintro
  isplitl [H0]; · iexact H0
  rw [Nat.sub_zero, Nat.add_mul, ← tallyAt_add]
  icombine Hcr1 Hcr2 as H
  iexact H

/-- The FIRST wait of a pair in flight hands nothing back: it only counts. -/
theorem wp_waitFirst [EC.LandsIn (upEmb : UEmb _ 𝕄)] {sp' sp'' : Space} {s' : Shape} {e' : EltTy} {κ' : Kind} {sem : DmaSem sig}
    {srcw : Memref sig c.2.kind sp' s' e'} {dstw : Memref sig κ' sp'' s e} {hsrc : srcw.view.WordExact} {hdst : dstw.view.WordExact}
    {k : PUnit → Prog (TpuEff nD τ sig (Elt F) Λ c.2) α} (ι : Ix) {K o : ℕ} (hJ : dstw.view.dmaCredit = o * K)
    {D : sProp 𝕄} {O : CellTallies nD τ sig Ix} {W : Waits sig Ix} :
    iprop(InFlight EC c (.dma sem) ι K o D 0 ∗ owes c O W ∗ MayWait c (.dma sem) ι O)
      ⊢ iprop((iprop(InFlight EC c (.dma sem) ι K o D (o * K) ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold InFlight
  iintro ⟨⟨%E, %hE, HB⟩, HO, HM⟩ Hk
  iapply (Transfers.wp_waitBatchMulO EC 𝒱 c bd ι o hJ (n := o + o) (D := E) (j := o + o) (u := 0) (N := K)
    (by rw [Nat.zero_add, Nat.mul_comm K, Nat.add_mul]; exact Nat.le_add_right _ _)) $$ [HB HO HM]
  · isplitl [HB]; · iexact HB
    isplitl [HO] <;> iassumption
  iintro ⟨HB, HO⟩
  iapply Hk
  isplitl [HB]
  · iexists E
    isplitr; · ipureintro; exact hE
    rw [Nat.zero_add]
    iexact HB
  iexact HO

/-- The SECOND wait hands back what both gathers hand back, and the cell at zero. -/
theorem wp_waitSecond [EC.LandsIn (upEmb : UEmb _ 𝕄)] {sp' sp'' : Space} {s' : Shape} {e' : EltTy} {κ' : Kind} {sem : DmaSem sig}
    {srcw : Memref sig c.2.kind sp' s' e'} {dstw : Memref sig κ' sp'' s e} {hsrc : srcw.view.WordExact} {hdst : dstw.view.WordExact}
    {k : PUnit → Prog (TpuEff nD τ sig (Elt F) Λ c.2) α} (ι : Ix) {K o : ℕ} (hK : 0 < K) (hJ : dstw.view.dmaCredit = o * K)
    {D : sProp 𝕄} {O : CellTallies nD τ sig Ix} {W : Waits sig Ix} :
    iprop(InFlight EC c (.dma sem) ι K o D (o * K) ∗ owes c O W ∗ MayWait c (.dma sem) ι O)
      ⊢ iprop((iprop(D ∗ semVal (c, SemLoc.dma sem) 0 ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold InFlight
  iintro ⟨⟨%E, %hE, HB⟩, HO, HM⟩ Hk
  iapply (Transfers.wp_waitBatchAllO EC 𝒱 c bd ι hJ hK (n := o + o) (D := E) (u := o * K) (N := K)
    (by rw [Nat.mul_comm K, Nat.add_mul])) $$ [HB HO HM]
  · isplitl [HB]; · iexact HB
    isplitl [HO] <;> iassumption
  iintro ⟨HD, Hv, HO⟩
  iapply Hk
  isplitl [HD]; · iapply hE $$ HD
  isplitl [Hv] <;> iassumption

end Cert.Pair

end
-- ==== Proof.Fold.lean ====
/-
  The pooled value of one row of tokens, as the kernel adds it up: each half of the padded row is folded from zero,
  one token after another, and the two halves are added. Nothing of the program is read here.
-/
module

public import Idealize.ShloMosaic.PureOps.Vector

@[expose] public section

noncomputable section

namespace Cert.Fold

open Idealize.ShloMosaic

variable {F : FTy → Type} [FloatOps F]

/-- The first `n` of the numbers `v 0, v 1, …` added up from zero, each to the sum so far. -/
def accum (v : ℕ → F .f32) : ℕ → F .f32
  | 0 => FloatOps.ofBits .f32 0x00000000#32
  | n + 1 => FloatOps.addf (accum v n) (v n)

/-- No values add up to zero. -/
theorem accum_zero (v : ℕ → F .f32) : accum v 0 = FloatOps.ofBits .f32 0x00000000#32 := rfl
/-- One more value is added on the right. -/
theorem accum_succ (v : ℕ → F .f32) (n : ℕ) : accum v (n + 1) = FloatOps.addf (accum v n) (v n) := rfl

/-- Lane `x` of a row's pooled value: the two halves `V 0` and `V 1` of the row, 104 tokens each, added up. -/
def pooled (V : ℕ → ℕ → ℕ → F .f32) (x : ℕ) : F .f32 :=
  FloatOps.addf (accum (fun r => V 0 r x) 104) (accum (fun r => V 1 r x) 104)

/-! ## Places of an array by plain numbers (each taken modulo the array's extent) -/

/-- The place `(i, j)` of an `a × b` array. -/
def at2 {a b : ℕ} [NeZero a] [NeZero b] (i j : ℕ) : (⟨2, ![a, b]⟩ : Shape).Idx
  | 0 => Fin.ofNat a i
  | 1 => Fin.ofNat b j

/-- The place `(i, j, k)` of an `a × b × c` array. -/
def at3 {a b c : ℕ} [NeZero a] [NeZero b] [NeZero c] (i j k : ℕ) : (⟨3, ![a, b, c]⟩ : Shape).Idx
  | 0 => Fin.ofNat a i
  | 1 => Fin.ofNat b j
  | 2 => Fin.ofNat c k

/-- A position of a matrix is the one at its two numbers. -/
theorem at2_self {a b : ℕ} [NeZero a] [NeZero b] (y : (⟨2, ![a, b]⟩ : Shape).Idx) {i j : ℕ} (h0 : (y 0).val = i) (h1 : (y 1).val = j) :
    at2 i j = y := by
  subst h0 h1
  funext k
  match k with
  | 0 => exact Fin.ext (Nat.mod_eq_of_lt (y 0).isLt)
  | 1 => exact Fin.ext (Nat.mod_eq_of_lt (y 1).isLt)

/-- A position of a three-dimensional array is the one at its three numbers. -/
theorem at3_self {a b c : ℕ} [NeZero a] [NeZero b] [NeZero c] (y : (⟨3, ![a, b, c]⟩ : Shape).Idx) {i j k : ℕ}
    (h0 : (y 0).val = i) (h1 : (y 1).val = j) (h2 : (y 2).val = k) : at3 i j k = y := by
  subst h0 h1 h2
  funext k
  match k with
  | 0 => exact Fin.ext (Nat.mod_eq_of_lt (y 0).isLt)
  | 1 => exact Fin.ext (Nat.mod_eq_of_lt (y 1).isLt)
  | 2 => exact Fin.ext (Nat.mod_eq_of_lt (y 2).isLt)

/-- Column `x` of the table's row that entry `(h, r)` of row `b`'s token list names. -/
def token {n w B H R : ℕ} [NeZero n] [NeZero w] [NeZero B] [NeZero H] [NeZero R] {α : Type}
    (tab : (⟨2, ![n, w]⟩ : Shape).Idx → α) (ids : (⟨3, ![B, H, R]⟩ : Shape).Idx → BitVec 32) (b h r x : ℕ) : α :=
  tab (at2 (ids (at3 b h r)).toNat x)

end Cert.Fold
-- ==== Proof.Pre.lean ====
/- What the precondition of the frames says, index by index: every index lies in the table. -/
module

public import proofs.«01_k».proof.Proof.Gen.Pre_ids_in_table
public import proofs.«01_k».proof.Proof.Fold
public import Idealize.ShloMosaic.Lib.ReduceAll
public import Idealize.ShloMosaic.Lib.ValueIdxCore
public import Idealize.ShloMosaic.Lib.Pipeline.Value
public import Idealize.ShloMosaic.PureOps.Ideal
public import Idealize.ShloMosaic.PureOps.Ideal.Laws
public import Idealize.ShloMosaic.PureOps.IdealRules

@[expose] public section

noncomputable section

namespace Cert.Given

open Idealize.ShloMosaic

variable {F : FTy → Type} [FloatOps F]

/-- An array without axes has one position. -/
instance : Subsingleton (⟨0, ![]⟩ : Shape).Idx := ⟨fun a b => funext fun k => k.elim0⟩

/-- A word that is at least 0 and below 100000, both read as signed, is below 100000 as a natural number. -/
theorem toNat_lt_of_range {x : BitVec 32} (h : IntOp.andi (IntOp.cmpi .sge x 0#32) (IntOp.cmpi .slt x 100000#32) = 1#1) :
    x.toNat < 100000 := by
  obtain ⟨h0, h1⟩ := IntOp.andi_eq_one.1 h
  have h0 := IntOp.cmpi_sge.1 h0
  have h1 := IntOp.cmpi_slt.1 h1
  have e0 : (0#32 : BitVec 32).toInt = 0 := by decide
  have e1 : (100000#32 : BitVec 32).toInt = 100000 := by decide
  rw [e0] at h0
  rw [e1] at h1
  rw [BitVec.toInt_eq_toNat_cond] at h0 h1
  have := x.isLt
  split at h0 <;> omega

/-- The first precondition: every index lies in the table. -/
theorem range_of_ids_in_table (a0 a1 a2 a3 a4 a5 a6 a7 a8 a9)
    (h : Cert.Pre_ids_in_table.fn (F := F) a0 a1 a2 a3 a4 a5 a6 a7 a8 a9 = fun _ => 1#1) (i) : (a0 i).toNat < 100000 :=
  toNat_lt_of_range (Host.reduce_andi_all _ _ _ _ (fun k => k.elim0) (congrFun h _) i)

end Cert.Given

end
-- ==== Proof.TripI.lean ====
/- One trip of the loop that adds up a slot's rows: what its sixteen accumulators hold before and after, lane by lane. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Pair
public import proofs.«01_k».proof.Proof.Fold
public import proofs.«01_k».proof.Proof.Gen.KernelIdeal
public import proofs.«01_k».proof.Proof.Gen.KernelIdeal.Skeleton

@[expose] public section

noncomputable section

namespace Cert.Proof.PoolI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Fold

variable {F : FTy → Type}

/-- The handshakes' ghost state, -/
abbrev UH : Type := URounds (GSem nD τ sig) ℕ
/-- the TensorCore call's, -/
abbrev UP : Type := UR sig nD τ
/-- and all of it. -/
abbrev UU : Type := UH × (UP × Counters)

local notation "𝕄" => MT nD τ sig (HIx 1) (Elt F) ℕ UU ℕ
/-- The kernels' loops need no variant. -/
abbrev 𝒱₀ : Variants := Variants.none

/-- The SparseCore of a pair, -/
abbrev cV (L : grid0.Coords) : Fin τ.nSC := (L 0).castLE hcore0
/-- its tile, -/
abbrev jV (L : grid0.Coords) : Fin τ.nSub := (L 1).castLE hsub0
/-- and the tile's thread. -/
abbrev VT (d : Dev nD) (L : grid0.Coords) : Thread nD τ := V d (cV L) (jV L)

local notation "iV" => (Memref.whole Cert.KernelIdeal.main_v1_scv : Memref Cert.KernelIdeal.sig Kind.scVector Space.hbm Cert.KernelIdeal.S4096x2x104 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "lV" => (Memref.whole Cert.KernelIdeal.cc0_scratch0 : Memref Cert.KernelIdeal.sig Kind.scVector Space.vmem Cert.KernelIdeal.S128x2x104 EltTy.i32)
local notation "rV" => (Memref.whole Cert.KernelIdeal.cc0_scratch1 : Memref Cert.KernelIdeal.sig Kind.scVector Space.vmem Cert.KernelIdeal.S2x2x104x128 EltTy.f32)
local notation "pV" => (Memref.whole Cert.KernelIdeal.cc0_scratch2 : Memref Cert.KernelIdeal.sig Kind.scVector Space.vmem Cert.KernelIdeal.S128x128 EltTy.f32)

/-- The ring's two slots, as the body slices them. -/
abbrev slot0 : Memref sig .scVector .vmem S2x104x128 .f32 :=
  ((rV).slice (Rect.unit (s := S2x2x104x128) ![0, 0, 0, 0] S1x2x104x128.size inb_S2x2x104x128_S1x2x104x128_0_0_0_0) (fun _ => rfl)).squeeze S2x104x128 squeezes_S1x2x104x128_S2x104x128
/-- The second slot of the ring. -/
abbrev slot1 : Memref sig .scVector .vmem S2x104x128 .f32 :=
  ((rV).slice (Rect.unit (s := S2x2x104x128) ![1, 0, 0, 0] S1x2x104x128.size inb_S2x2x104x128_S1x2x104x128_1_0_0_0) (fun _ => rfl)).squeeze S2x104x128 squeezes_S1x2x104x128_S2x104x128

variable [FloatOps F]

/-! ## The reduction of one slot -/

/-- Lane group `j` of half `h` after `n` tokens. -/
def lane (W : ℕ → ℕ → ℕ → F .f32) (h j n : ℕ) : FVec F S16 .f32 := fun i => accum (fun r => W h r (16 * j + (i 0).val)) n

/-- The loop's sixteen accumulators. -/
abbrev Acc (F : FTy → Type) := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The sixteen accumulators after `n` tokens of both halves. -/
def accs (W : ℕ → ℕ → ℕ → F .f32) (n : ℕ) : Acc F :=
  (lane W 0 0 n, lane W 0 1 n, lane W 0 2 n, lane W 0 3 n, lane W 0 4 n, lane W 0 5 n, lane W 0 6 n, lane W 0 7 n,
    lane W 1 0 n, lane W 1 1 n, lane W 1 2 n, lane W 1 3 n, lane W 1 4 n, lane W 1 5 n, lane W 1 6 n, lane W 1 7 n)

omit [FloatOps F] in
/-- A `[1,1,16]` vector read as a `[16]` one. -/
theorem cast16 {α : Type} (v : S1x1x16.Idx → α) (i : S16.Idx) :
    shapeCast S16 v shapeCasts_S1x1x16_S16 i = v (fun | 0 => ⟨0, by decide⟩ | 1 => ⟨0, by decide⟩ | 2 => ⟨(i 0).val, (i 0).isLt⟩) := by
  unfold shapeCast
  congr 1
  revert i; decide +kernel

/-- A lane group of the slot's token `k`, added to the first `k` tokens' sum, is the first `k + 1` tokens' sum. -/
theorem lane_step (W : ℕ → ℕ → ℕ → F .f32) (v : Memref sig .scVector .vmem S2x104x128 .f32) (f : v.view.ty.Contents (Elt F))
    (hf : ∀ y : S2x104x128.Idx, v.view.read (Elt F) f y = W (y 0).val (y 1).val (y 2).val) (h j k : ℕ) {off : Fin 3 → ℕ}
    (inb : ∀ a, off a + S1x1x16.size a ≤ S2x104x128.size a) (e : off = ![h, k, 16 * j]) :
    addf (lane W h j k) (shapeCast S16 (v.view.readAt (Elt F) (Rect.unit (s := S2x104x128) off S1x1x16.size inb).toLoadRect f) shapeCasts_S1x1x16_S16)
      = lane W h j (k + 1) := by
  subst e
  funext i
  show FloatOps.addf (accum (fun r => W h r (16 * j + (i 0).val)) k) _ = accum (fun r => W h r (16 * j + (i 0).val)) (k + 1)
  rw [accum_succ]
  congr 1
  rw [cast16, View.readAt_apply, hf]
  congr 1 <;> simp [LoadRect.idx, Rect.toLoadRect, Rect.unit]

section Trip

variable (d : Dev nD) (L : grid0.Coords)

/-- One token of the reduction of slot 0: the slot is only read, and every accumulator goes from `k` tokens to `k + 1`. -/
theorem trip0 (W : ℕ → ℕ → ℕ → F .f32) (f : Buf (Elt F) ((slot0).view.loc (VT d L)))
    (hf : ∀ y : S2x104x128.Idx, (slot0).view.read (Elt F) f y = W (y 0).val (y 1).val (y 2).val)
    (k1 : Fin k0_t1_loop.trips) (v14 : BitVec 32) (k : Fin k0_t2_loop.trips) :
    ((slot0).view.loc (VT d L) ↦[(slot0).view.set]{fullShare} f : sProp 𝕄)
      ⊢ wp frame (wpE (defs₀ (F := F)) 𝒱₀ (VT d L) none) Set.univ
          (k0_t2_body L iV (Memref.isWhole_whole _) xV (Memref.isWhole_whole _) oV (Memref.isWhole_whole _)
            lV (Memref.isWhole_whole _) rV (Memref.isWhole_whole _) pV (Memref.isWhole_whole _) cc0_scratch3 cc0_scratch4 cc0_scoped0 cc0_scoped1 k1 v14 k (accs W k.val))
          fun a => iprop(⌜a = accs W (k.val + 1)⌝ ∗ ((slot0).view.loc (VT d L) ↦[(slot0).view.set]{fullShare} f)) := by
  iintro H
  unfold accs
  sl_unfold [k0_t2_body]
  sl_exec
  sl_step
  isplitr
  · ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_)))))))))))))))
    · exact lane_step W (slot0) f hf 0 0 k.val (k0_off4_inb k) (k0_off4_eq k)
    · exact lane_step W (slot0) f hf 0 1 k.val (k0_off5_inb k) (k0_off5_eq k)
    · exact lane_step W (slot0) f hf 0 2 k.val (k0_off6_inb k) (k0_off6_eq k)
    · exact lane_step W (slot0) f hf 0 3 k.val (k0_off7_inb k) (k0_off7_eq k)
    · exact lane_step W (slot0) f hf 0 4 k.val (k0_off8_inb k) (k0_off8_eq k)
    · exact lane_step W (slot0) f hf 0 5 k.val (k0_off9_inb k) (k0_off9_eq k)
    · exact lane_step W (slot0) f hf 0 6 k.val (k0_off10_inb k) (k0_off10_eq k)
    · exact lane_step W (slot0) f hf 0 7 k.val (k0_off11_inb k) (k0_off11_eq k)
    · exact lane_step W (slot0) f hf 1 0 k.val (k0_off12_inb k) (k0_off12_eq k)
    · exact lane_step W (slot0) f hf 1 1 k.val (k0_off13_inb k) (k0_off13_eq k)
    · exact lane_step W (slot0) f hf 1 2 k.val (k0_off14_inb k) (k0_off14_eq k)
    · exact lane_step W (slot0) f hf 1 3 k.val (k0_off15_inb k) (k0_off15_eq k)
    · exact lane_step W (slot0) f hf 1 4 k.val (k0_off16_inb k) (k0_off16_eq k)
    · exact lane_step W (slot0) f hf 1 5 k.val (k0_off17_inb k) (k0_off17_eq k)
    · exact lane_step W (slot0) f hf 1 6 k.val (k0_off18_inb k) (k0_off18_eq k)
    · exact lane_step W (slot0) f hf 1 7 k.val (k0_off19_inb k) (k0_off19_eq k)
  · iexact H

/-- One token of the reduction of slot 1: the slot is only read, and every accumulator goes from `k` tokens to `k + 1`. -/
theorem trip1 (W : ℕ → ℕ → ℕ → F .f32) (f : Buf (Elt F) ((slot1).view.loc (VT d L)))
    (hf : ∀ y : S2x104x128.Idx, (slot1).view.read (Elt F) f y = W (y 0).val (y 1).val (y 2).val)
    (v14 : BitVec 32) (k : Fin k0_t3_loop.trips) :
    ((slot1).view.loc (VT d L) ↦[(slot1).view.set]{fullShare} f : sProp 𝕄)
      ⊢ wp frame (wpE (defs₀ (F := F)) 𝒱₀ (VT d L) none) Set.univ
          (k0_t3_body L iV (Memref.isWhole_whole _) xV (Memref.isWhole_whole _) oV (Memref.isWhole_whole _)
            lV (Memref.isWhole_whole _) rV (Memref.isWhole_whole _) pV (Memref.isWhole_whole _) cc0_scratch3 cc0_scratch4 cc0_scoped0 cc0_scoped1 v14 k (accs W k.val))
          fun a => iprop(⌜a = accs W (k.val + 1)⌝ ∗ ((slot1).view.loc (VT d L) ↦[(slot1).view.set]{fullShare} f)) := by
  iintro H
  unfold accs
  sl_unfold [k0_t3_body]
  sl_exec
  sl_step
  isplitr
  · ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_)))))))))))))))
    · exact lane_step W (slot1) f hf 0 0 k.val (k0_off30_inb k) (k0_off30_eq k)
    · exact lane_step W (slot1) f hf 0 1 k.val (k0_off31_inb k) (k0_off31_eq k)
    · exact lane_step W (slot1) f hf 0 2 k.val (k0_off32_inb k) (k0_off32_eq k)
    · exact lane_step W (slot1) f hf 0 3 k.val (k0_off33_inb k) (k0_off33_eq k)
    · exact lane_step W (slot1) f hf 0 4 k.val (k0_off34_inb k) (k0_off34_eq k)
    · exact lane_step W (slot1) f hf 0 5 k.val (k0_off35_inb k) (k0_off35_eq k)
    · exact lane_step W (slot1) f hf 0 6 k.val (k0_off36_inb k) (k0_off36_eq k)
    · exact lane_step W (slot1) f hf 0 7 k.val (k0_off37_inb k) (k0_off37_eq k)
    · exact lane_step W (slot1) f hf 1 0 k.val (k0_off38_inb k) (k0_off38_eq k)
    · exact lane_step W (slot1) f hf 1 1 k.val (k0_off39_inb k) (k0_off39_eq k)
    · exact lane_step W (slot1) f hf 1 2 k.val (k0_off40_inb k) (k0_off40_eq k)
    · exact lane_step W (slot1) f hf 1 3 k.val (k0_off41_inb k) (k0_off41_eq k)
    · exact lane_step W (slot1) f hf 1 4 k.val (k0_off42_inb k) (k0_off42_eq k)
    · exact lane_step W (slot1) f hf 1 5 k.val (k0_off43_inb k) (k0_off43_eq k)
    · exact lane_step W (slot1) f hf 1 6 k.val (k0_off44_inb k) (k0_off44_eq k)
    · exact lane_step W (slot1) f hf 1 7 k.val (k0_off45_inb k) (k0_off45_eq k)
  · iexact H

end Trip

end Cert.Proof.PoolI
-- ==== Proof.RingI.lean ====
/- The two slots of the ring: where their windows lie, what the two indexed copies bring into a slot, and the steps that
   start such a pair of copies and wait for it. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.TripI
public import proofs.«01_k».proof.Proof.Pair
public import proofs.«01_k».proof.Proof.Fold
public import proofs.«01_k».proof.Proof.Gen.KernelIdeal
public import proofs.«01_k».proof.Proof.Gen.KernelIdeal.Skeleton

@[expose] public section

noncomputable section

namespace Cert.Proof.PoolI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Fold

variable {F : FTy → Type}

local notation "𝕄" => MT nD τ sig (HIx 1) (Elt F) ℕ UU ℕ
local notation "iV" => (Memref.whole Cert.KernelIdeal.main_v1_scv : Memref Cert.KernelIdeal.sig Kind.scVector Space.hbm Cert.KernelIdeal.S4096x2x104 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "lV" => (Memref.whole Cert.KernelIdeal.cc0_scratch0 : Memref Cert.KernelIdeal.sig Kind.scVector Space.vmem Cert.KernelIdeal.S128x2x104 EltTy.i32)
local notation "rV" => (Memref.whole Cert.KernelIdeal.cc0_scratch1 : Memref Cert.KernelIdeal.sig Kind.scVector Space.vmem Cert.KernelIdeal.S2x2x104x128 EltTy.f32)
local notation "pV" => (Memref.whole Cert.KernelIdeal.cc0_scratch2 : Memref Cert.KernelIdeal.sig Kind.scVector Space.vmem Cert.KernelIdeal.S128x128 EltTy.f32)

/-! ## The ring's slots and windows, the lists, the table, by their offsets -/

/-- Slot `s` of the ring. -/
abbrev slotM (s : ℕ) (h : ∀ a, (![s, 0, 0, 0] : Fin 4 → ℕ) a + S1x2x104x128.size a ≤ S2x2x104x128.size a) : Memref sig .scVector .vmem S2x104x128 .f32 :=
  ((rV).slice (Rect.unit (s := S2x2x104x128) ![s, 0, 0, 0] S1x2x104x128.size h) (fun _ => rfl)).squeeze S2x104x128 squeezes_S1x2x104x128_S2x104x128
/-- Half `u` of slot `s`: the rows one gather lands. -/
abbrev winM (s u : ℕ) (h : ∀ a, (![s, u, 0, 0] : Fin 4 → ℕ) a + S1x1x104x128.size a ≤ S2x2x104x128.size a) : Memref sig .scVector .vmem S104x128 .f32 :=
  ((rV).slice (Rect.unit (s := S2x2x104x128) ![s, u, 0, 0] S1x1x104x128.size h) (fun _ => rfl)).squeeze S104x128 squeezes_S1x1x104x128_S104x128
/-- The token list at an offset of the list buffer. -/
abbrev lstM (off : Fin 3 → ℕ) (h : ∀ a, off a + S1x1x104.size a ≤ S128x2x104.size a) : Memref sig .scVector .vmem S104 .i32 :=
  ((lV).slice (Rect.unit (s := S128x2x104) off S1x1x104.size h) (fun _ => rfl)).squeeze S104 squeezes_S1x1x104_S104
/-- The table, as a gather names it. -/
abbrev tblM : Memref sig .scVector .hbm S100000x128 .f32 :=
  (xV).slice (Rect.unit (s := S100000x128) ![0, 0] S100000x128.size inb_S100000x128_S100000x128_0_0) (fun _ => rfl)

/-- Where an element of a slot lies in the ring's buffer. -/
theorem slot_emb (s : ℕ) (h) (y : S2x104x128.Idx) (a : Fin 4) :
    ((slotM s h).view.emb y a).val = (![s, (y 0).val, (y 1).val, (y 2).val] : Fin 4 → ℕ) a := by
  show (![s, 0, 0, 0] : Fin 4 → ℕ) a + 1 * (Shape.reshapeEquiv (s := S1x2x104x128) (s' := S2x104x128) squeezes_S1x2x104x128_S2x104x128.numel_eq y a).val = _
  rw [show Shape.reshapeEquiv (s := S1x2x104x128) (s' := S2x104x128) squeezes_S1x2x104x128_S2x104x128.numel_eq y = Fin.cons ⟨0, Nat.one_pos⟩ y from
    Shape.reshapeEquiv_cons_one _ y]
  match a with
  | 0 => show s + 1 * 0 = s; omega
  | 1 => show 0 + 1 * (y 0).val = (y 0).val; omega
  | 2 => show 0 + 1 * (y 1).val = (y 1).val; omega
  | 3 => show 0 + 1 * (y 2).val = (y 2).val; omega

/-- Where an element of half a slot lies in it. -/
theorem win_emb (s u : ℕ) (h) (y : S104x128.Idx) (a : Fin 4) :
    ((winM s u h).view.emb y a).val = (![s, u, (y 0).val, (y 1).val] : Fin 4 → ℕ) a := by
  have e : Shape.reshapeEquiv (s := S1x1x104x128) (s' := S104x128) squeezes_S1x1x104x128_S104x128.numel_eq y
      = Fin.cons ⟨0, Nat.one_pos⟩ (Fin.cons (α := fun i => Fin ((![1, 104, 128] : Fin 3 → ℕ) i)) ⟨0, Nat.one_pos⟩ y) := by
    have h1 : S104x128.numel = (⟨3, ![1, 104, 128]⟩ : Shape).numel := by decide
    have h2 : (⟨3, ![1, 104, 128]⟩ : Shape).numel = S1x1x104x128.numel := by decide
    rw [← Shape.reshapeEquiv_reshapeEquiv (s := S1x1x104x128) (s' := ⟨3, ![1, 104, 128]⟩) h2 h1 y,
      show Shape.reshapeEquiv h1 y = Fin.cons ⟨0, Nat.one_pos⟩ y from Shape.reshapeEquiv_cons_one _ y]
    exact Shape.reshapeEquiv_cons_one _ _
  show (![s, u, 0, 0] : Fin 4 → ℕ) a + 1 * (Shape.reshapeEquiv (s := S1x1x104x128) (s' := S104x128) squeezes_S1x1x104x128_S104x128.numel_eq y a).val = _
  rw [e]
  match a with
  | 0 => show s + 1 * 0 = s; omega
  | 1 => show u + 1 * 0 = u; omega
  | 2 => show 0 + 1 * (y 0).val = (y 0).val; omega
  | 3 => show 0 + 1 * (y 1).val = (y 1).val; omega

/-- Where a place of half a list lies among the tile's lists. -/
theorem lst_emb (off : Fin 3 → ℕ) (h) (y : S104.Idx) (a : Fin 3) :
    ((lstM off h).view.emb y a).val = (![off 0, off 1, off 2 + (y 0).val] : Fin 3 → ℕ) a := by
  have e : Shape.reshapeEquiv (s := S1x1x104) (s' := S104) squeezes_S1x1x104_S104.numel_eq y
      = Fin.cons ⟨0, Nat.one_pos⟩ (Fin.cons (α := fun i => Fin ((![1, 104] : Fin 2 → ℕ) i)) ⟨0, Nat.one_pos⟩ y) := by
    have h1 : S104.numel = (⟨2, ![1, 104]⟩ : Shape).numel := by decide
    have h2 : (⟨2, ![1, 104]⟩ : Shape).numel = S1x1x104.numel := by decide
    rw [← Shape.reshapeEquiv_reshapeEquiv (s := S1x1x104) (s' := ⟨2, ![1, 104]⟩) h2 h1 y,
      show Shape.reshapeEquiv h1 y = Fin.cons ⟨0, Nat.one_pos⟩ y from Shape.reshapeEquiv_cons_one _ y]
    exact Shape.reshapeEquiv_cons_one _ _
  show off a + 1 * (Shape.reshapeEquiv (s := S1x1x104) (s' := S104) squeezes_S1x1x104_S104.numel_eq y a).val = _
  rw [e]
  match a with
  | 0 => show off 0 + 1 * 0 = off 0; omega
  | 1 => show off 1 + 1 * 0 = off 1; omega
  | 2 => show off 2 + 1 * (y 0).val = off 2 + (y 0).val; omega

/-- An element lies in a view exactly if it is the image of a position. -/
theorem mem_vset {κ : Kind} {sp : Space} {s : Shape} {e : EltTy} (v : View sig κ sp s e) (i : v.ty.Idx) : i ∈ v.set ↔ ∃ y, v.emb y = i := by
  simp [View.set]

/-- A slot's elements are its two halves'. -/
theorem slot_set (s : ℕ) (h h0 h1) : (slotM s h).view.set = (winM s 0 h0).view.set ∪ (winM s 1 h1).view.set := by
  refine Finset.ext fun i => ?_
  rw [Finset.mem_union, mem_vset, mem_vset, mem_vset]
  constructor
  · intro ⟨y, hy'⟩
    have hy : (y 0).val < 2 := (y 0).isLt
    rcases (show (y 0).val = 0 ∨ (y 0).val = 1 by omega) with e | e
    · refine .inl ⟨fun | 0 => ⟨(y 1).val, (y 1).isLt⟩ | 1 => ⟨(y 2).val, (y 2).isLt⟩, Eq.trans ?_ hy'⟩
      funext a; apply Fin.ext; rw [win_emb, slot_emb, e]
    · refine .inr ⟨fun | 0 => ⟨(y 1).val, (y 1).isLt⟩ | 1 => ⟨(y 2).val, (y 2).isLt⟩, Eq.trans ?_ hy'⟩
      funext a; apply Fin.ext; rw [win_emb, slot_emb, e]
  · intro h'
    rcases h' with ⟨y, hy'⟩ | ⟨y, hy'⟩
    · refine ⟨fun | 0 => ⟨0, by decide⟩ | 1 => ⟨(y 0).val, (y 0).isLt⟩ | 2 => ⟨(y 1).val, (y 1).isLt⟩, Eq.trans ?_ hy'⟩
      funext a; apply Fin.ext; rw [win_emb, slot_emb]
    · refine ⟨fun | 0 => ⟨1, by decide⟩ | 1 => ⟨(y 0).val, (y 0).isLt⟩ | 2 => ⟨(y 1).val, (y 1).isLt⟩, Eq.trans ?_ hy'⟩
      funext a; apply Fin.ext; rw [win_emb, slot_emb]

/-- The two halves have no element in common. -/
theorem win_disjoint (s : ℕ) (h0 h1) : Disjoint (winM s 0 h0).view.set (winM s 1 h1).view.set := by
  rw [Finset.disjoint_left]
  intro i h h'
  obtain ⟨y, ey⟩ := (mem_vset _ _).mp h
  obtain ⟨z, ez⟩ := (mem_vset _ _).mp h'
  have := congrArg Fin.val (congrFun (ez.trans ey.symm) (1 : Fin 4))
  rw [win_emb, win_emb] at this
  exact absurd this (by show ¬ (1 = 0); decide)

set_option maxRecDepth 65536 in
/-- A transfer of one row of a half credits 4096 bits; a wait for a half, 104 such rows. -/
theorem credit_row (s u : ℕ) (h) (j) :
    ((winM s u h).slice (S104x128.rowRect gathers_S100000x128_S104x128.axis' j) (S104x128.stride_rowRect gathers_S100000x128_S104x128.axis' j)).view.dmaCredit = 4096 := by
  show sig.dmaCredit Kind.scVector (Kind.scVector.table .vmem) cc0_scratch1.idx _ EltTy.f32 = 4096
  rfl
/-- Half a slot's copy signals 104 rows of 4096. -/
theorem credit_win (s u : ℕ) (h) : (winM s u h).view.dmaCredit = 104 * 4096 := by
  show sig.dmaCredit Kind.scVector (Kind.scVector.table .vmem) cc0_scratch1.idx S104x128 EltTy.f32 = _
  rfl

/-! ## A slot's two gathers: what is in flight, and what lands -/

/-- The place at a number of half a list. -/
theorem symm104 : ∀ j : Fin 104, (S104.rowMajor.symm (j.cast (by decide)) 0).val = j.val := by decide +kernel

/-- The table as the gather's slice of it reads it. -/
theorem tbl_read (ft : (xV).view.ty.Contents (Elt F)) (z : S100000x128.Idx) : tblM.view.read (Elt F) ft z = ft z := by
  show ft _ = ft z
  congr 1
  funext a; apply Fin.ext
  match a with
  | 0 => show 0 + 1 * (z 0).val = (z 0).val; omega
  | 1 => show 0 + 1 * (z 1).val = (z 1).val; omega

/-- What a half list's view reads. -/
theorem lst_read (fl : (lV).view.ty.Contents (Elt F)) {off : Fin 3 → ℕ} {b u : ℕ} (h) (e : off = ![b, u, 0]) (hb : b < 128) (hu : u < 2) (y : S104.Idx) :
    (lstM off h).view.read (Elt F) fl y = fl (at3 b u (y 0).val) := by
  subst e
  show fl _ = fl _
  congr 1
  symm
  apply at3_self
  · exact (lst_emb _ h y 0)
  · exact (lst_emb _ h y 1)
  · exact (lst_emb _ h y 2).trans (by show 0 + (y 0).val = _; omega)

/-- A half's row after its gather: the table's row that the list names. -/
theorem half_read (s u b : ℕ) (h) (hb : b < 128) (hu : u < 2) (ft : (xV).view.ty.Contents (Elt F)) (fl : (lV).view.ty.Contents (Elt F))
    (fd : (rV).view.ty.Contents (Elt F)) {off : Fin 3 → ℕ} (hl) (e : off = ![b, u, 0])
    (hin : ∀ x, ((lstM off hl).view.read (Elt F) fl x).toNat < S100000x128.size gathers_S100000x128_S104x128.axis) (y : S104x128.Idx) :
    ((winM s u h).view.write (Elt F) fd (SparseCore.gatherPayload gathers_S100000x128_S104x128 (tblM.view.read (Elt F) ft)
        (SparseCore.rows ((lstM off hl).view.read (Elt F) fl) (by decide) hin)) Finset.univ) ((winM s u h).view.emb y)
      = Fold.token ft fl b u (y 0).val (y 1).val := by
  have e1 := congrFun (View.read_write_univ (Val := Elt F) (v := (winM s u h).view) fd (SparseCore.gatherPayload gathers_S100000x128_S104x128 (tblM.view.read (Elt F) ft)
        (SparseCore.rows ((lstM off hl).view.read (Elt F) fl) (by decide) hin))) y
  refine Eq.trans (b := (winM s u h).view.read (Elt F) ((winM s u h).view.write (Elt F) fd (SparseCore.gatherPayload gathers_S100000x128_S104x128 (tblM.view.read (Elt F) ft)
        (SparseCore.rows ((lstM off hl).view.read (Elt F) fl) (by decide) hin)) Finset.univ) y) rfl (e1.trans ?_)
  unfold SparseCore.gatherPayload
  rw [tbl_read]
  unfold Fold.token
  congr 1
  symm
  apply at2_self
  · rw [show (gathers_S100000x128_S104x128.idx (SparseCore.rows ((lstM off hl).view.read (Elt F) fl) (by decide) hin) y 0) = _ from
      Shape.Gathers.idx_axis gathers_S100000x128_S104x128 _ y]
    unfold SparseCore.rows
    show ((lstM off hl).view.read (Elt F) fl _).toNat = _
    rw [lst_read fl hl e hb hu]
    congr 2
    have := symm104 (y 0)
    exact congrArg (at3 b u) this
  · exact Shape.Gathers.idx_of_ne gathers_S100000x128_S104x128 _ y 1 (by decide)

variable (d : Dev nD) (L : grid0.Coords)

/-- A slot landed: its two halves hold the tokens `W`, and the shares of the table and of the list are back. -/
def Landed (s : ℕ) (h : ∀ a, (![s, 0, 0, 0] : Fin 4 → ℕ) a + S1x2x104x128.size a ≤ S2x2x104x128.size a) (W : ℕ → ℕ → ℕ → F .f32) (q qo : PosShare TreeShare) (ft : Buf (Elt F) ((xV).view.loc (VT d L))) (fl : Buf (Elt F) ((lV).view.loc (VT d L))) : sProp 𝕄 :=
  iprop((∃ f : Buf (Elt F) ((slotM s h).view.loc (VT d L)), ⌜∀ y : S2x104x128.Idx, (slotM s h).view.read (Elt F) f y = W (y 0).val (y 1).val (y 2).val⌝
        ∗ ((slotM s h).view.loc (VT d L) ↦[(slotM s h).view.set]{fullShare} f))
    ∗ (tblM.view.loc (VT d L) ↦[tblM.view.set]{q} ft) ∗ ((lV).view.loc (VT d L) ↦{qo} fl))

/-- A slot free: its elements held at any value, its semaphore at zero, the shares at hand. -/
def Free (s : ℕ) (h : ∀ a, (![s, 0, 0, 0] : Fin 4 → ℕ) a + S1x2x104x128.size a ≤ S2x2x104x128.size a) (sem : DmaSem sig) (q qo : PosShare TreeShare) (ft : Buf (Elt F) ((xV).view.loc (VT d L))) (fl : Buf (Elt F) ((lV).view.loc (VT d L))) : sProp 𝕄 :=
  iprop((∃ f : Buf (Elt F) ((slotM s h).view.loc (VT d L)), ((slotM s h).view.loc (VT d L) ↦[(slotM s h).view.set]{fullShare} f))
    ∗ (tblM.view.loc (VT d L) ↦[tblM.view.set]{q} ft) ∗ ((lV).view.loc (VT d L) ↦{qo} fl) ∗ semVal (VT d L, SemLoc.dma sem) 0)

/-- A slot being filled with row `b`, `u` units of its credits already waited for. -/
def Flight (s : ℕ) (h : ∀ a, (![s, 0, 0, 0] : Fin 4 → ℕ) a + S1x2x104x128.size a ≤ S2x2x104x128.size a) (sem : DmaSem sig) (b : ℕ) (q qo : PosShare TreeShare) (ft : Buf (Elt F) ((xV).view.loc (VT d L))) (fl : Buf (Elt F) ((lV).view.loc (VT d L))) (u : ℕ) : sProp 𝕄 :=
  iprop(∃ D R : sProp 𝕄, ⌜iprop(D ∗ R) ⊢ Landed d L s h (Fold.token ft fl b) q qo ft fl⌝ ∗ Pair.InFlight countersEmb (VT d L) (.dma sem) default 4096 104 D u ∗ R)

variable [FloatOps F]

/-- Starting a sample's pair of copies puts its slot in flight. -/
theorem wp_issue {s b : ℕ} {h h0 h1} {off1 off2 : Fin 3 → ℕ} {hl1 hl2} (hb : b < 128) (e1 : off1 = ![b, 0, 0]) (e2 : off2 = ![b, 1, 0]) (sem : DmaSem sig) {q qo : PosShare TreeShare}
    {ft : Buf (Elt F) ((xV).view.loc (VT d L))} {fl : Buf (Elt F) ((lV).view.loc (VT d L))}
    (hok : ∀ x : S128x2x104.Idx, (fl x : BitVec 32).toNat < 100000)
    {α : Type} {Q : α → sProp 𝕄} {k : PUnit → Prog (TpuEff nD τ sig (Elt F) Λ₀ (VT d L).2) α} :
    Free d L s h sem q qo ft fl
      ⊢ iprop((Flight d L s h sem b q qo ft fl 0 -∗ wp frame (wpE (defs₀ (F := F)) 𝒱₀ (VT d L) none) Set.univ (k ⟨⟩) Q)
        -∗ wp frame (wpE (defs₀ (F := F)) 𝒱₀ (VT d L) none) Set.univ
          (SparseCore.enqueueIndirectGather rfl tblM (winM s 0 h0) gathers_S100000x128_S104x128 (lstM off1 hl1) rfl sem (View.wordExact_bits rfl) rfl (Or.inl rfl)
            >>= fun _ => SparseCore.enqueueIndirectGather rfl tblM (winM s 1 h1) gathers_S100000x128_S104x128 (lstM off2 hl2) rfl sem (View.wordExact_bits rfl) rfl (Or.inl rfl)
            >>= k) Q) := by
  have hin1 : ∀ x, ((lstM off1 hl1).view.read (Elt F) fl x : BitVec 32).toNat < S100000x128.size gathers_S100000x128_S104x128.axis := fun x => by
    rw [lst_read fl hl1 e1 hb (by decide)]; exact hok _
  have hin2 : ∀ x, ((lstM off2 hl2).view.read (Elt F) fl x : BitVec 32).toNat < S100000x128.size gathers_S100000x128_S104x128.axis := fun x => by
    rw [lst_read fl hl2 e2 hb (by decide)]; exact hok _
  unfold Free
  iintro ⟨⟨%f, Hs⟩, Ht, Hl, Hv⟩ Hk
  let gg : Buf (Elt F) ((slotM s h).view.loc (VT d L)) := Finset.piecewise (winM s 1 h1).view.set
    ((winM s 1 h1).view.write (Elt F) f (SparseCore.gatherPayload gathers_S100000x128_S104x128 (tblM.view.read (Elt F) ft)
        (SparseCore.rows ((lstM off2 hl2).view.read (Elt F) fl) rfl hin2)) Finset.univ)
    ((winM s 0 h0).view.write (Elt F) f (SparseCore.gatherPayload gathers_S100000x128_S104x128 (tblM.view.read (Elt F) ft)
        (SparseCore.rows ((lstM off1 hl1).view.read (Elt F) fl) rfl hin1)) Finset.univ)
  have hval : ∀ y : S2x104x128.Idx, (slotM s h).view.read (Elt F) gg y = Fold.token ft fl b (y 0).val (y 1).val (y 2).val := by
    intro y
    have hy : (y 0).val < 2 := (y 0).isLt
    rcases (show (y 0).val = 0 ∨ (y 0).val = 1 by omega) with e | e
    · have hz : (slotM s h).view.emb y = (winM s 0 h0).view.emb (fun | 0 => ⟨(y 1).val, (y 1).isLt⟩ | 1 => ⟨(y 2).val, (y 2).isLt⟩) := by
        funext a; apply Fin.ext; rw [win_emb, slot_emb, e]
      refine (congrArg gg hz).trans ?_
      unfold gg
      rw [Finset.piecewise_eq_of_notMem _ _ _ (Finset.disjoint_left.mp (win_disjoint s h0 h1) ((mem_vset _ _).mpr ⟨_, rfl⟩))]
      rw [e]
      exact half_read s 0 b h0 hb (by decide) ft fl f hl1 e1 hin1 _
    · have hz : (slotM s h).view.emb y = (winM s 1 h1).view.emb (fun | 0 => ⟨(y 1).val, (y 1).isLt⟩ | 1 => ⟨(y 2).val, (y 2).isLt⟩) := by
        funext a; apply Fin.ext; rw [win_emb, slot_emb, e]
      refine (congrArg gg hz).trans ?_
      unfold gg
      refine Eq.trans (Finset.piecewise_eq_of_mem _ _ _ ((mem_vset (winM s 1 h1).view _).mpr ⟨_, rfl⟩)) ?_
      rw [e]
      exact half_read s 1 b h1 hb (by decide) ft fl f hl2 e2 hin2 _
  ihave Hs := (Entails.of_eq (congrArg (fun S => ((slotM s h).view.loc (VT d L) ↦[S]{fullShare} f : sProp 𝕄)) (slot_set s h h0 h1))) $$ Hs
  ihave Hs := (pointsTo_union (win_disjoint s h0 h1)).1 $$ Hs
  icases Hs with ⟨Hs0, Hs1⟩
  ihave Ht := (pointsTo_share (PosShare.mem_left_op_right q)).1 $$ Ht
  icases Ht with ⟨Ht0, Ht1⟩
  ihave Hl := (pointsTo_share (PosShare.mem_left_op_right qo)).1 $$ Hl
  icases Hl with ⟨Hl0, Hl1⟩
  ihave Hl0 := (pointsTo_split_subset (Finset.subset_univ (lstM off1 hl1).view.set)).1 $$ Hl0
  icases Hl0 with ⟨Hl0, Hr0⟩
  ihave Hl1 := (pointsTo_split_subset (Finset.subset_univ (lstM off2 hl2).view.set)).1 $$ Hl1
  icases Hl1 with ⟨Hl1, Hr1⟩
  iapply (Pair.wp_gatherPair (countersEmb) 𝒱₀ (VT d L) none (src₁ := tblM) (src₂ := tblM) (dst₁ := winM s 0 h0) (dst₂ := winM s 1 h1)
      (hg := gathers_S100000x128_S104x128) (offs₁ := lstM off1 hl1) (offs₂ := lstM off2 hl2) (default : HIx 1) 4096 (by decide)
      (credit_row s 0 h0) (credit_row s 1 h1) hin1 hin2) $$ [Hs0 Ht0 Hl0 Hs1 Ht1 Hl1 Hv]
  · isplitl [Hs0 Ht0 Hl0]
    · isplitl [Ht0]; · iexact Ht0
      isplitl [Hs0]; · iexact Hs0
      iexact Hl0
    isplitl [Hs1 Ht1 Hl1]
    · isplitl [Ht1]; · iexact Ht1
      isplitl [Hs1]; · iexact Hs1
      iexact Hl1
    iexact Hv
  iintro HF
  iapply Hk
  unfold Flight
  iexists iprop(Pair.gatherBack (VT d L) tblM (winM s 0 h0) gathers_S100000x128_S104x128 (lstM off1 hl1) rfl q.left qo.left ft f fl hin1
    ∗ Pair.gatherBack (VT d L) tblM (winM s 1 h1) gathers_S100000x128_S104x128 (lstM off2 hl2) rfl q.right qo.right ft f fl hin2)
  iexists iprop(((lV).view.loc (VT d L) ↦[Finset.univ \ (lstM off1 hl1).view.set]{qo.left} fl) ∗ ((lV).view.loc (VT d L) ↦[Finset.univ \ (lstM off2 hl2).view.set]{qo.right} fl))
  isplitr
  · ipureintro
    unfold Pair.gatherBack Landed
    iintro ⟨⟨⟨Hs0, Ht0, Hl0⟩, Hs1, Ht1, Hl1⟩, Hr0, Hr1⟩
    isplitl [Hs0 Hs1]
    · ihave Hs := (pointsTo_join (ℓ := (slotM s h).view.loc (VT d L)) (win_disjoint s h0 h1)) $$ [Hs0 Hs1]
      · isplitl [Hs0]; · iexact Hs0
        iexact Hs1
      iexists gg
      isplitr; · ipureintro; exact hval
      · iapply (Entails.of_eq (congrArg (fun S => ((slotM s h).view.loc (VT d L) ↦[S]{fullShare} gg : sProp 𝕄)) (slot_set s h h0 h1).symm)) $$ Hs
    isplitl [Ht0 Ht1]
    · iapply (pointsTo_share (PosShare.mem_left_op_right q)).2
      isplitl [Ht0]; · iexact Ht0
      iexact Ht1
    iapply (pointsTo_share (PosShare.mem_left_op_right qo)).2
    isplitl [Hl0 Hr0]
    · iapply (pointsTo_split_subset (Finset.subset_univ (lstM off1 hl1).view.set)).2
      isplitl [Hl0]; · iexact Hl0
      iexact Hr0
    · iapply (pointsTo_split_subset (Finset.subset_univ (lstM off2 hl2).view.set)).2
      isplitl [Hl1]; · iexact Hl1
      iexact Hr1
  isplitl [HF]; · iexact HF
  isplitl [Hr0]; · iexact Hr0
  iexact Hr1

/-- The first wait on a slot takes half of the credit. -/
theorem wp_wait1 {s b : ℕ} {h} {sem : DmaSem sig} {q qo : PosShare TreeShare}
    {ft : Buf (Elt F) ((xV).view.loc (VT d L))} {fl : Buf (Elt F) ((lV).view.loc (VT d L))}
    {s' u' : ℕ} {h'} {sp' : Space} {s'' : Shape} {e' : EltTy} {srcw : Memref sig (VT d L).2.kind sp' s'' e'} {hsrc : srcw.view.WordExact} {hdst : (winM s' u' h').view.WordExact}
    {O : CellTallies nD τ sig (HIx 1)} {W : Waits sig (HIx 1)}
    {α : Type} {Q : α → sProp 𝕄} {k : PUnit → Prog (TpuEff nD τ sig (Elt F) Λ₀ (VT d L).2) α} :
    iprop(Flight d L s h sem b q qo ft fl 0 ∗ owes (VT d L) O W ∗ Transfers.MayWaits (VT d L) default O)
      ⊢ iprop((iprop(Flight d L s h sem b q qo ft fl (104 * 4096) ∗ owes (VT d L) O (insert (SemLoc.dma sem, default) W)) -∗ wp frame (wpE (defs₀ (F := F)) 𝒱₀ (VT d L) none) Set.univ (k ⟨⟩) Q)
        -∗ wp frame (wpE (defs₀ (F := F)) 𝒱₀ (VT d L) none) Set.univ (SparseCore.waitIndirectGather sem srcw (winM s' u' h') hsrc hdst >>= k) Q) := by
  show _ ⊢ iprop(_ -∗ wp frame (wpE (defs₀ (F := F)) 𝒱₀ (VT d L) none) Set.univ (.op (.waitDma2 sem srcw (winM s' u' h') hsrc hdst) k) Q)
  unfold Flight
  iintro ⟨⟨%D, %R, %hD, HF, HR⟩, HO, HM⟩ Hk
  ihave HM' := Transfers.MayWaits.elim (SemLoc.dma sem) $$ HM
  iapply (Pair.wp_waitFirst countersEmb 𝒱₀ (VT d L) none (default : HIx 1) (credit_win s' u' h')) $$ [HF HO HM']
  · isplitl [HF]; · iexact HF
    isplitl [HO]; · iexact HO
    iexact HM'
  iintro ⟨HF, HO⟩
  iapply Hk
  isplitl [HF HR]
  · iexists D; iexists R
    isplitr; · ipureintro; exact hD
    isplitl [HF]; · iexact HF
    iexact HR
  iexact HO

/-- The second wait takes the rest, and the sample's rows have landed. -/
theorem wp_wait2 {s b : ℕ} {h} {sem : DmaSem sig} {q qo : PosShare TreeShare}
    {ft : Buf (Elt F) ((xV).view.loc (VT d L))} {fl : Buf (Elt F) ((lV).view.loc (VT d L))}
    {s' u' : ℕ} {h'} {sp' : Space} {s'' : Shape} {e' : EltTy} {srcw : Memref sig (VT d L).2.kind sp' s'' e'} {hsrc : srcw.view.WordExact} {hdst : (winM s' u' h').view.WordExact}
    {O : CellTallies nD τ sig (HIx 1)} {W : Waits sig (HIx 1)}
    {α : Type} {Q : α → sProp 𝕄} {k : PUnit → Prog (TpuEff nD τ sig (Elt F) Λ₀ (VT d L).2) α} :
    iprop(Flight d L s h sem b q qo ft fl (104 * 4096) ∗ owes (VT d L) O W ∗ Transfers.MayWaits (VT d L) default O)
      ⊢ iprop((iprop(Landed d L s h (Fold.token ft fl b) q qo ft fl ∗ semVal (VT d L, SemLoc.dma sem) 0 ∗ owes (VT d L) O (insert (SemLoc.dma sem, default) W)) -∗ wp frame (wpE (defs₀ (F := F)) 𝒱₀ (VT d L) none) Set.univ (k ⟨⟩) Q)
        -∗ wp frame (wpE (defs₀ (F := F)) 𝒱₀ (VT d L) none) Set.univ (SparseCore.waitIndirectGather sem srcw (winM s' u' h') hsrc hdst >>= k) Q) := by
  show _ ⊢ iprop(_ -∗ wp frame (wpE (defs₀ (F := F)) 𝒱₀ (VT d L) none) Set.univ (.op (.waitDma2 sem srcw (winM s' u' h') hsrc hdst) k) Q)
  unfold Flight
  iintro ⟨⟨%D, %R, %hD, HF, HR⟩, HO, HM⟩ Hk
  ihave HM' := Transfers.MayWaits.elim (SemLoc.dma sem) $$ HM
  iapply (Pair.wp_waitSecond countersEmb 𝒱₀ (VT d L) none (default : HIx 1) (by decide) (credit_win s' u' h')) $$ [HF HO HM']
  · isplitl [HF]; · iexact HF
    isplitl [HO]; · iexact HO
    iexact HM'
  iintro ⟨HD, Hv, HO⟩
  iapply Hk
  isplitl [HD HR]
  · iapply hD
    isplitl [HD]; · iexact HD
    iexact HR
  isplitl [Hv]; · iexact Hv
  iexact HO

end Cert.Proof.PoolI
-- ==== Proof.BodyI.lean ====
/- One trip of the loop over the ring, which does two samples: the second slot's copies start, the first slot is waited for
   and added up, its next copies start unless this is the last trip, and the second slot is waited for and added up. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.RingI
public import proofs.«01_k».proof.Proof.TripI
public import proofs.«01_k».proof.Proof.Pair
public import proofs.«01_k».proof.Proof.Fold
public import proofs.«01_k».proof.Proof.Gen.KernelIdeal
public import proofs.«01_k».proof.Proof.Gen.KernelIdeal.Skeleton

@[expose] public section

noncomputable section

namespace Cert.Proof.PoolI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Fold

variable {F : FTy → Type}

local notation "𝕄" => MT nD τ sig (HIx 1) (Elt F) ℕ UU ℕ
local notation "iV" => (Memref.whole Cert.KernelIdeal.main_v1_scv : Memref Cert.KernelIdeal.sig Kind.scVector Space.hbm Cert.KernelIdeal.S4096x2x104 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "lV" => (Memref.whole Cert.KernelIdeal.cc0_scratch0 : Memref Cert.KernelIdeal.sig Kind.scVector Space.vmem Cert.KernelIdeal.S128x2x104 EltTy.i32)
local notation "rV" => (Memref.whole Cert.KernelIdeal.cc0_scratch1 : Memref Cert.KernelIdeal.sig Kind.scVector Space.vmem Cert.KernelIdeal.S2x2x104x128 EltTy.f32)
local notation "pV" => (Memref.whole Cert.KernelIdeal.cc0_scratch2 : Memref Cert.KernelIdeal.sig Kind.scVector Space.vmem Cert.KernelIdeal.S128x128 EltTy.f32)

variable [FloatOps F] (d : Dev nD) (L : grid0.Coords)

/-- Rows below `p` of the pooled buffer, and of row `p` the first `n` lane groups, hold the pooled values. -/
def Part (ft : (xV).view.ty.Contents (Elt F)) (fl : (lV).view.ty.Contents (Elt F)) (p n : ℕ) (g : (pV).view.ty.Contents (Elt F)) : Prop :=
  ∀ z : S128x128.Idx, ((z 0).val < p ∨ ((z 0).val = p ∧ (z 1).val < 16 * n)) → (pV).view.read (Elt F) g z = pooled (Fold.token ft fl (z 0).val) (z 1).val

/-- Slot 0 with its copies in flight. -/
abbrev FL0 := Flight (F := F) d L 0 inb_S2x2x104x128_S1x2x104x128_0_0_0_0 cc0_scratch3.sem
/-- Slot 1 with its copies in flight. -/
abbrev FL1 := Flight (F := F) d L 1 inb_S2x2x104x128_S1x2x104x128_1_0_0_0 cc0_scratch4.sem
/-- Slot 0 free. -/
abbrev FR0 := Free (F := F) d L 0 inb_S2x2x104x128_S1x2x104x128_0_0_0_0 cc0_scratch3.sem
/-- Slot 1 free. -/
abbrev FR1 := Free (F := F) d L 1 inb_S2x2x104x128_S1x2x104x128_1_0_0_0 cc0_scratch4.sem

/-- The accumulators through a slot's reduction, the slot only read. -/
def redInv0 (W : ℕ → ℕ → ℕ → F .f32) (f : Buf (Elt F) ((slot0).view.loc (VT d L))) (k : ℕ) (a : Acc F) : sProp 𝕄 :=
  iprop(⌜a = accs W k⌝ ∗ ((slot0).view.loc (VT d L) ↦[(slot0).view.set]{fullShare} f))
/-- The same for slot 1. -/
def redInv1 (W : ℕ → ℕ → ℕ → F .f32) (f : Buf (Elt F) ((slot1).view.loc (VT d L))) (k : ℕ) (a : Acc F) : sProp 𝕄 :=
  iprop(⌜a = accs W k⌝ ∗ ((slot1).view.loc (VT d L) ↦[(slot1).view.set]{fullShare} f))

/-- A condition holds at every trip but the last. -/
theorem cond_iff : ∀ k : Fin k0_t1_loop.trips, k0_cond1 k = 1#1 ↔ k.val + 1 < 64 := by decide +kernel

/-- Slot 0 between two trips: being filled with row `2 k`, or free after the last. -/
def Next (k : ℕ) (q qo : PosShare TreeShare) (ft : Buf (Elt F) ((xV).view.loc (VT d L))) (fl : Buf (Elt F) ((lV).view.loc (VT d L))) : sProp 𝕄 :=
  if k < 64 then FL0 d L (2 * k) q qo ft fl 0 else FR0 d L q qo ft fl

/-- The next row's gathers into slot 0, started at every trip but the last. -/
theorem wp_next {q qo : PosShare TreeShare} {ft : Buf (Elt F) ((xV).view.loc (VT d L))} {fl : Buf (Elt F) ((lV).view.loc (VT d L))}
    (hok : ∀ x : S128x2x104.Idx, (fl x : BitVec 32).toNat < 100000) (k : Fin k0_t1_loop.trips) {Q : PUnit → sProp 𝕄} {h0 h1} :
    FR0 d L q qo ft fl
      ⊢ iprop((Next d L (k.val + 1) q qo ft fl -∗ Q ⟨⟩)
        -∗ wp frame (wpE (defs₀ (F := F)) 𝒱₀ (VT d L) none) Set.univ
          (if h : k0_cond1 k = 1#1 then
            SparseCore.enqueueIndirectGather rfl tblM (winM 0 0 h0) gathers_S100000x128_S104x128 (lstM (k0_off28 k) (k0_off28_inb k h)) rfl cc0_scratch3.sem (View.wordExact_bits rfl) rfl (Or.inl rfl)
            >>= fun _ => SparseCore.enqueueIndirectGather rfl tblM (winM 0 1 h1) gathers_S100000x128_S104x128 (lstM (k0_off29 k) (k0_off29_inb k h)) rfl cc0_scratch3.sem (View.wordExact_bits rfl) rfl (Or.inl rfl)
            >>= fun _ => pure ⟨⟩
          else pure ⟨⟩) Q) := by
  by_cases h : k0_cond1 k = 1#1
  · have hk := (cond_iff k).mp h
    rw [dif_pos h]
    iintro HF HQ
    iapply (wp_issue d L (b := 2 * (k.val + 1)) (by omega) (k0_off28_eq k) (k0_off29_eq k) cc0_scratch3.sem hok) $$ HF
    iintro HF
    sl_step
    iapply HQ
    unfold Next
    rw [if_pos hk]
    iexact HF
  · have hk := mt (cond_iff k).mpr h
    rw [dif_neg h]
    iintro HF HQ
    sl_step
    iapply HQ
    unfold Next
    rw [if_neg hk]
    iexact HF

omit [FloatOps F] in
/-- One more recorded wait at the default place keeps the record within its bound. -/
theorem ins_ok {W W' : Waits sig (HIx 1)} (s : SemLoc sig) (h : ∀ p ∈ W', p ∈ W ∨ p.2 = none) : ∀ p ∈ insert (s, (default : HIx 1)) W', p ∈ W ∨ p.2 = none := by
  intro p hp
  rcases Finset.mem_insert.mp hp with hp | hp
  · exact .inr (hp ▸ rfl)
  · exact h p hp

omit [FloatOps F] in
/-- A `[16]` vector read as a `[1,16]` one. -/
theorem cast1x16 {α : Type} (v : S16.Idx → α) (i : S1x16.Idx) :
    shapeCast S1x16 v shapeCasts_S16_S1x16 i = v (fun | 0 => ⟨(i 1).val, (i 1).isLt⟩) := by
  unfold shapeCast
  congr 1
  revert i; decide +kernel

/-- One more lane group of the row stored. -/
theorem part_step {ft : (xV).view.ty.Contents (Elt F)} {fl : (lV).view.ty.Contents (Elt F)} {p n : ℕ} (g : (pV).view.ty.Contents (Elt F)) (Ls : List (View.Piece (Elt F) S128x128 .f32))
    (hn : n < 8) {off : Fin 2 → ℕ} (inb : ∀ a, off a + S1x16.size a ≤ S128x128.size a) (e : off = ![p, 16 * n])
    (h : Part ft fl p n ((pV).view.writes (Elt F) g Ls)) :
    Part ft fl p (n + 1) ((pV).view.writes (Elt F) g (⟨Rect.unit (s := S128x128) off S1x16.size inb,
      shapeCast S1x16 (addf (lane (Fold.token ft fl p) 0 n 104) (lane (Fold.token ft fl p) 1 n 104)) shapeCasts_S16_S1x16⟩ :: Ls)) := by
  intro z hz
  by_cases hin : (z 0).val = p ∧ 16 * n ≤ (z 1).val ∧ (z 1).val < 16 * (n + 1)
  · obtain ⟨h0, h1, h2⟩ := hin
    rw [View.read_writes_cons_unit_of_mem (pV).view g inb _ Ls z (fun | 0 => ⟨0, Nat.one_pos⟩ | 1 => ⟨(z 1).val - 16 * n, by show _ < 16; omega⟩) e
      (fun a => match a with
        | 0 => by show (z 0).val = p + 0; omega
        | 1 => by show (z 1).val = 16 * n + ((z 1).val - 16 * n); omega)]
    rw [cast1x16]
    rw [h0]
    show FloatOps.addf _ _ = FloatOps.addf _ _
    unfold lane
    congr 2 <;> (funext r; congr 1; show 16 * n + ((z 1).val - 16 * n) = _; omega)
  · have hz' : (z 0).val < p ∨ ((z 0).val = p ∧ (z 1).val < 16 * n) := by omega
    rw [← h z hz']
    rcases hz' with h' | ⟨h', h''⟩
    · exact View.read_writes_cons_unit_of_not_mem (pV).view g inb _ Ls z e 0 (.inl h')
    · exact View.read_writes_cons_unit_of_not_mem (pV).view g inb _ Ls z e 1 (.inl h'')

omit [FloatOps F] in
/-- A row complete is a row more. -/
theorem part_row [FloatOps F] {ft : (xV).view.ty.Contents (Elt F)} {fl : (lV).view.ty.Contents (Elt F)} {p : ℕ} {g : (pV).view.ty.Contents (Elt F)}
    (h : Part ft fl p 8 g) : Part ft fl (p + 1) 0 g := fun z hz => h z (by have := (z 1).isLt; have e : S128x128.size 1 = 128 := rfl; omega)

/-- The ring between two trips: rows below `2 k` pooled, slot 0 being filled with row `2 k`, slot 1 free. -/
def ringInv (q qo q' qo' : PosShare TreeShare) (ft : Buf (Elt F) ((xV).view.loc (VT d L))) (fl : Buf (Elt F) ((lV).view.loc (VT d L)))
    (O : CellTallies nD τ sig (HIx 1)) (W : Waits sig (HIx 1)) (k : ℕ) (_ : Unit) : sProp 𝕄 :=
  iprop(Next d L k q qo ft fl ∗ FR1 d L q' qo' ft fl ∗ (∃ g, ⌜Part ft fl (2 * k) 0 g⌝ ∗ ((pV).view.loc (VT d L) ↦{fullShare} g))
    ∗ (∃ W', ⌜∀ p ∈ W', p ∈ W ∨ p.2 = none⌝ ∗ owes (VT d L) O W') ∗ Transfers.MayWaits (VT d L) default O)

/-- One trip of the ring keeps the ring's invariant and finishes two more samples. -/
theorem trip_ring (q qo q' qo' : PosShare TreeShare) (ft : Buf (Elt F) ((xV).view.loc (VT d L))) (fl : Buf (Elt F) ((lV).view.loc (VT d L)))
    (hok : ∀ x : S128x2x104.Idx, (fl x : BitVec 32).toNat < 100000)
    (O : CellTallies nD τ sig (HIx 1)) (W : Waits sig (HIx 1)) (k : Fin k0_t1_loop.trips) :
    ringInv d L q qo q' qo' ft fl O W k.val ⟨⟩
      ⊢ wp frame (wpE (defs₀ (F := F)) 𝒱₀ (VT d L) none) Set.univ
          (k0_t1_body L iV (Memref.isWhole_whole _) xV (Memref.isWhole_whole _) oV (Memref.isWhole_whole _)
            lV (Memref.isWhole_whole _) rV (Memref.isWhole_whole _) pV (Memref.isWhole_whole _) cc0_scratch3 cc0_scratch4 cc0_scoped0 cc0_scoped1 k ⟨⟩)
          (ringInv d L q qo q' qo' ft fl O W (k.val + 1)) := by
  have hk : k.val < 64 := k.isLt
  unfold ringInv
  iintro ⟨HF, HR, ⟨%g, %hg, Hp⟩, ⟨%W', %hW, HO⟩, #HM⟩
  ihave HF := (Entails.of_eq (show Next d L k.val q qo ft fl = FL0 d L (2 * k.val) q qo ft fl 0 from if_pos hk)) $$ HF
  sl_unfold [k0_t1_body]
  sl_exec
  iapply (wp_issue d L (b := 2 * k.val + 1) (by omega) (k0_off2_eq k) (k0_off3_eq k) cc0_scratch4.sem hok) $$ HR
  iintro HR
  iapply (wp_wait1 d L) $$ [HF HO]
  · isplitl [HF]; · iexact HF
    isplitl [HO]; · iexact HO
    iexact HM
  iintro ⟨HF, HO⟩
  sl_exec
  iapply (wp_wait2 d L) $$ [HF HO]
  · isplitl [HF]; · iexact HF
    isplitl [HO]; · iexact HO
    iexact HM
  iintro ⟨HL, Hv, HO⟩
  unfold Landed
  icases HL with ⟨⟨%f, %hf, Hs⟩, Ht, Hl⟩
  sl_exec
  sl_for (redInv0 d L (Fold.token ft fl (2 * k.val)) f) $$ [Hs]
  case region =>
    intro k2 a
    unfold redInv0
    iintro ⟨%ea, Hs⟩
    subst ea
    iapply (trip0 d L (Fold.token ft fl (2 * k.val)) f hf k _ k2) $$ Hs
  · unfold redInv0
    isplitr; · ipureintro; rfl
    iexact Hs
  iintro %a HI
  unfold redInv0
  icases HI with ⟨%ea, Hs⟩
  subst ea
  unfold accs
  sl_exec
  iapply (wp_next d L hok k) $$ [Hs Ht Hl Hv]
  · unfold FR0 Free
    isplitl [Hs]; · iexists f; iexact Hs
    isplitl [Ht]; · iexact Ht
    isplitl [Hl]; · iexact Hl
    iexact Hv
  iintro HF
  sl_exec
  iapply (wp_wait1 d L) $$ [HR HO]
  · isplitl [HR]; · iexact HR
    isplitl [HO]; · iexact HO
    iexact HM
  iintro ⟨HR, HO⟩
  sl_exec
  iapply (wp_wait2 d L) $$ [HR HO]
  · isplitl [HR]; · iexact HR
    isplitl [HO]; · iexact HO
    iexact HM
  iintro ⟨HL, Hv, HO⟩
  unfold Landed
  icases HL with ⟨⟨%f1, %hf1, Hs⟩, Ht, Hl⟩
  sl_exec
  sl_for (redInv1 d L (Fold.token ft fl (2 * k.val + 1)) f1) $$ [Hs]
  case region =>
    intro k2 a
    unfold redInv1
    iintro ⟨%ea, Hs⟩
    subst ea
    iapply (trip1 d L (Fold.token ft fl (2 * k.val + 1)) f1 hf1 _ k2) $$ Hs
  · unfold redInv1
    isplitr; · ipureintro; rfl
    iexact Hs
  iintro %a HI
  unfold redInv1
  icases HI with ⟨%ea, Hs⟩
  subst ea
  unfold accs
  sl_exec
  sl_step
  isplitl [HF]; · iexact HF
  isplitl [Hs Ht Hl Hv]
  · unfold FR1 Free
    isplitl [Hs]; · iexists f1; iexact Hs
    isplitl [Ht]; · iexact Ht
    isplitl [Hl]; · iexact Hl
    iexact Hv
  isplitl [Hp]
  · iexists _
    isplitr; rotate_left; · iexact Hp
    ipureintro
    refine part_row (p := 2 * k.val + 1) ?_
    refine part_step _ _ (n := 7) (by decide) _ (k0_off53_eq k) ?_
    refine part_step _ _ (n := 6) (by decide) _ (k0_off52_eq k) ?_
    refine part_step _ _ (n := 5) (by decide) _ (k0_off51_eq k) ?_
    refine part_step _ _ (n := 4) (by decide) _ (k0_off50_eq k) ?_
    refine part_step _ _ (n := 3) (by decide) _ (k0_off49_eq k) ?_
    refine part_step _ _ (n := 2) (by decide) _ (k0_off48_eq k) ?_
    refine part_step _ _ (n := 1) (by decide) _ (k0_off47_eq k) ?_
    refine part_step _ _ (n := 0) (by decide) _ (k0_off46_eq k) ?_
    refine part_row (p := 2 * k.val) ?_
    refine part_step _ _ (n := 7) (by decide) _ (k0_off27_eq k) ?_
    refine part_step _ _ (n := 6) (by decide) _ (k0_off26_eq k) ?_
    refine part_step _ _ (n := 5) (by decide) _ (k0_off25_eq k) ?_
    refine part_step _ _ (n := 4) (by decide) _ (k0_off24_eq k) ?_
    refine part_step _ _ (n := 3) (by decide) _ (k0_off23_eq k) ?_
    refine part_step _ _ (n := 2) (by decide) _ (k0_off22_eq k) ?_
    refine part_step _ _ (n := 1) (by decide) _ (k0_off21_eq k) ?_
    refine part_step _ _ (n := 0) (by decide) _ (k0_off20_eq k) ?_
    exact hg
  isplitl [HO]
  · iexists _
    isplitr; rotate_left; · iexact HO
    ipureintro
    exact ins_ok _ (ins_ok _ (ins_ok _ (ins_ok _ hW)))
  iexact HM

end Cert.Proof.PoolI
-- ==== Proof.TileI.lean ====
/- The whole task of one tile, at any pair of SparseCore and tile: it fetches its token lists, runs the ring over its 128
   samples and writes their sums to its part of the result. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.BodyI
public import proofs.«01_k».proof.Proof.RingI
public import proofs.«01_k».proof.Proof.TripI
public import proofs.«01_k».proof.Proof.Pair
public import proofs.«01_k».proof.Proof.Fold
public import proofs.«01_k».proof.Proof.Gen.KernelIdeal
public import proofs.«01_k».proof.Proof.Gen.KernelIdeal.Skeleton

@[expose] public section

noncomputable section

namespace Cert.Proof.PoolI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Fold

variable {F : FTy → Type}

local notation "𝕄" => MT nD τ sig (HIx 1) (Elt F) ℕ UU ℕ
local notation "iV" => (Memref.whole Cert.KernelIdeal.main_v1_scv : Memref Cert.KernelIdeal.sig Kind.scVector Space.hbm Cert.KernelIdeal.S4096x2x104 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "lV" => (Memref.whole Cert.KernelIdeal.cc0_scratch0 : Memref Cert.KernelIdeal.sig Kind.scVector Space.vmem Cert.KernelIdeal.S128x2x104 EltTy.i32)
local notation "rV" => (Memref.whole Cert.KernelIdeal.cc0_scratch1 : Memref Cert.KernelIdeal.sig Kind.scVector Space.vmem Cert.KernelIdeal.S2x2x104x128 EltTy.f32)
local notation "pV" => (Memref.whole Cert.KernelIdeal.cc0_scratch2 : Memref Cert.KernelIdeal.sig Kind.scVector Space.vmem Cert.KernelIdeal.S128x128 EltTy.f32)

variable (d : Dev nD) (L : grid0.Coords)

/-- The block of rows the task writes. -/
abbrev oBlkK : Memref sig .scVector .hbm S128x128 .f32 :=
  (oV).slice (Rect.unit (s := S4096x128) (k0_off54 L) S128x128.size (k0_off54_inb L)) (fun _ => rfl)

/-- The first row of the task's block. -/
def base : ℕ := 256 * (L 1).val + 128 * (L 0).val

/-- The ring is its two slots. -/
theorem ring_set (h0 h1) : (rV).view.set = (slotM 0 h0).view.set ∪ (slotM 1 h1).view.set := by
  refine Finset.ext fun i => ?_
  rw [Finset.mem_union, mem_vset (slotM 0 h0).view, mem_vset (slotM 1 h1).view]
  constructor
  · intro _
    have h2 : (i 0).val < 2 := (i 0).isLt
    rcases (show (i 0).val = 0 ∨ (i 0).val = 1 by omega) with e | e
    · refine .inl ⟨fun | 0 => ⟨(i 1).val, (i 1).isLt⟩ | 1 => ⟨(i 2).val, (i 2).isLt⟩ | 2 => ⟨(i 3).val, (i 3).isLt⟩, ?_⟩
      funext a; apply Fin.ext; rw [slot_emb]
      match a with
      | 0 => exact e.symm
      | 1 => rfl
      | 2 => rfl
      | 3 => rfl
    · refine .inr ⟨fun | 0 => ⟨(i 1).val, (i 1).isLt⟩ | 1 => ⟨(i 2).val, (i 2).isLt⟩ | 2 => ⟨(i 3).val, (i 3).isLt⟩, ?_⟩
      funext a; apply Fin.ext; rw [slot_emb]
      match a with
      | 0 => exact e.symm
      | 1 => rfl
      | 2 => rfl
      | 3 => rfl
  · intro _
    exact (mem_vset (rV).view i).mpr ⟨i, rfl⟩

/-- The two slots have no element in common. -/
theorem slot_disjoint (h0 h1) : Disjoint (slotM 0 h0).view.set (slotM 1 h1).view.set := by
  rw [Finset.disjoint_left]
  intro i h h'
  obtain ⟨y, ey⟩ := (mem_vset _ _).mp h
  obtain ⟨z, ez⟩ := (mem_vset _ _).mp h'
  have := congrArg Fin.val (congrFun (ez.trans ey.symm) (0 : Fin 4))
  rw [slot_emb, slot_emb] at this
  exact absurd this (by show ¬ (1 = 0); decide)

variable [FloatOps F]

/-- The pooled rows, from the table and the token ids. -/
def outG (ft : (xV).view.ty.Contents (Elt F)) (fi : (iV).view.ty.Contents (Elt F)) : (oV).view.ty.Contents (Elt F) :=
  fun (z : S4096x128.Idx) => pooled (Fold.token ft fi (z 0).val) (z 1).val

/-- The four cells the task names, at zero. -/
abbrev cells0 : sProp 𝕄 :=
  iprop(semVal (VT d L, SemLoc.dma cc0_scratch3.sem) 0 ∗ semVal (VT d L, SemLoc.dma cc0_scratch4.sem) 0 ∗ semVal (VT d L, SemLoc.dma cc0_scoped0.sem) 0
    ∗ semVal (VT d L, SemLoc.dma cc0_scoped1.sem) 0)

omit [FloatOps F] in
/-- What the copy of the task's ids leaves in the list buffer. -/
theorem list_val (fi : (iV).view.ty.Contents (Elt F)) (g0 : (lV).view.ty.Contents (Elt F)) (x : S128x2x104.Idx) :
    (View.write (Elt F) (lV).view g0 (ReadAs.same.apply (((iV).slice (Rect.unit (s := S4096x2x104) (k0_off1 L) S128x2x104.size (k0_off1_inb L)) (fun _ => rfl)).view.read (Elt F) fi)) Finset.univ : (lV).view.ty.Contents (Elt F)) x
      = fi (at3 (base L + (x 0).val) (x 1).val (x 2).val) := by
  refine (congrFun (View.read_write_univ (Val := Elt F) (v := (lV).view) g0 _) x).trans ?_
  show fi _ = fi _
  congr 1
  symm
  have e : ∀ a, k0_off1 L a = (![256 * (L 1).val + 128 * (L 0).val, 0, 0] : Fin 3 → ℕ) a := fun a => congrFun (k0_off1_eq L) a
  apply at3_self
  · show k0_off1 L 0 + 1 * (x 0).val = base L + (x 0).val
    rw [e 0]; show 256 * (L 1).val + 128 * (L 0).val + 1 * (x 0).val = base L + (x 0).val; unfold base; omega
  · show k0_off1 L 1 + 1 * (x 1).val = (x 1).val
    rw [e 1]; show 0 + 1 * (x 1).val = (x 1).val; omega
  · show k0_off1 L 2 + 1 * (x 2).val = (x 2).val
    rw [e 2]; show 0 + 1 * (x 2).val = (x 2).val; omega

omit [FloatOps F] in
/-- The rows that a tile's sample `b` names are those of sample `base + b` of the whole. -/
theorem token_shift (ft : (xV).view.ty.Contents (Elt F)) (fi : (iV).view.ty.Contents (Elt F)) (fl : (lV).view.ty.Contents (Elt F))
    (h : ∀ x : S128x2x104.Idx, fl x = fi (at3 (base L + (x 0).val) (x 1).val (x 2).val)) {b : ℕ} (hb : b < 128) :
    Fold.token ft fl b = Fold.token ft fi (base L + b) := by
  funext u r x
  unfold Fold.token
  rw [h]
  refine congrArg (fun z => ft (at2 (fi z : BitVec 32).toNat x)) ?_
  funext a
  match a with
  | 0 => exact Fin.ext (by show (base L + b % 128) % 4096 = (base L + b) % 4096; rw [Nat.mod_eq_of_lt hb])
  | 1 => exact Fin.ext (by show (u % 2) % 2 = u % 2; omega)
  | 2 => exact Fin.ext (by show (r % 104) % 104 = r % 104; omega)

/-- The task's block of the result, written from the pooled buffer. -/
theorem out_val (ft : (xV).view.ty.Contents (Elt F)) (fi : (iV).view.ty.Contents (Elt F)) (fl : (lV).view.ty.Contents (Elt F))
    (h : ∀ x : S128x2x104.Idx, fl x = fi (at3 (base L + (x 0).val) (x 1).val (x 2).val)) (g : (pV).view.ty.Contents (Elt F)) (hg : Part ft fl 128 0 g)
    (fo : (oV).view.ty.Contents (Elt F)) : ∀ i ∈ (oBlkK L).view.set,
      ((oBlkK L).view.write (Elt F) fo (ReadAs.same.apply ((pV).view.read (Elt F) g)) Finset.univ) i = outG ft fi i := by
  intro i hi
  obtain ⟨y, rfl⟩ := (mem_vset (oBlkK L).view i).mp hi
  refine (congrFun (View.read_write_univ (Val := Elt F) (v := (oBlkK L).view) fo _) y).trans ?_
  have hy : (y 0).val < 128 := (y 0).isLt
  refine (hg y (.inl hy)).trans ?_
  have e : ∀ a, k0_off54 L a = (![256 * (L 1).val + 128 * (L 0).val, 0] : Fin 2 → ℕ) a := fun a => congrFun (k0_off54_eq L) a
  have e0 : ((oBlkK L).view.emb y 0).val = base L + (y 0).val := by
    show k0_off54 L 0 + 1 * (y 0).val = base L + (y 0).val
    rw [e 0]; show 256 * (L 1).val + 128 * (L 0).val + 1 * (y 0).val = base L + (y 0).val; unfold base; omega
  have e1 : ((oBlkK L).view.emb y 1).val = (y 1).val := by
    show k0_off54 L 1 + 1 * (y 1).val = (y 1).val
    rw [e 1]; show 0 + 1 * (y 1).val = (y 1).val; omega
  rw [token_shift L ft fi fl h hy]
  show _ = pooled (Fold.token ft fi ((oBlkK L).view.emb y 0).val) ((oBlkK L).view.emb y 1).val
  rw [e0, e1]

/-- The tile's task runs, and writes its samples' sums to its part of the result. -/
theorem tile_run (qi qx : PosShare TreeShare) (fi : Buf (Elt F) ((iV).view.loc (VT d L))) (ft : Buf (Elt F) ((xV).view.loc (VT d L)))
    (hok : ∀ x : S4096x2x104.Idx, (fi x : BitVec 32).toNat < 100000)
    (fo : Buf (Elt F) ((oBlkK L).view.loc (VT d L))) (g0 : Buf (Elt F) ((lV).view.loc (VT d L))) (r0 : Buf (Elt F) ((rV).view.loc (VT d L))) (p0 : Buf (Elt F) ((pV).view.loc (VT d L)))
    (O : CellTallies nD τ sig (HIx 1)) (W : Waits sig (HIx 1)) :
    (iprop(Transfers.MayWaits (VT d L) (default : HIx 1) O
        ∗ ((iV).view.loc (VT d L) ↦{qi} fi)
        ∗ (tblM.view.loc (VT d L) ↦[tblM.view.set]{qx} ft)
        ∗ ((oBlkK L).view.loc (VT d L) ↦[(oBlkK L).view.set]{fullShare} fo)
        ∗ ((lV).view.loc (VT d L) ↦{fullShare} g0)
        ∗ ((rV).view.loc (VT d L) ↦[(rV).view.set]{fullShare} r0)
        ∗ ((pV).view.loc (VT d L) ↦{fullShare} p0)
        ∗ cells0 d L
        ∗ owes (VT d L) O W) : sProp 𝕄)
      ⊢ wp frame (wpE (defs₀ (F := F)) 𝒱₀ (VT d L) none) Set.univ
          (cc0__sc_pool L iV (Memref.isWhole_whole _) xV (Memref.isWhole_whole _) oV (Memref.isWhole_whole _)
            lV (Memref.isWhole_whole _) rV (Memref.isWhole_whole _) pV (Memref.isWhole_whole _) cc0_scratch3 cc0_scratch4 cc0_scoped0 cc0_scoped1)
          fun _ => iprop(((iV).view.loc (VT d L) ↦{qi} fi)
            ∗ (tblM.view.loc (VT d L) ↦[tblM.view.set]{qx} ft)
            ∗ ((oBlkK L).view.loc (VT d L) ↦[(oBlkK L).view.set]{fullShare} outG ft fi)
            ∗ (∃ g, (lV).view.loc (VT d L) ↦{fullShare} g)
            ∗ (∃ g, (rV).view.loc (VT d L) ↦[(rV).view.set]{fullShare} g)
            ∗ (∃ g, (pV).view.loc (VT d L) ↦{fullShare} g)
            ∗ cells0 d L
            ∗ ∃ W', ⌜∀ p ∈ W', p ∈ W ∨ p.2 = none⌝ ∗ owes (VT d L) O W') := by
  iintro ⟨#HM, Hi, Ht, Hob, Hl, Hr, Hp, ⟨Hc0, Hc1, Hc2, Hc3⟩, HO⟩
  sl_unfold [cc0__sc_pool]
  sl_exec
  have hfl := list_val L fi g0
  generalize hx : (View.write (Elt F) (lV).view g0 (tile_run.sl.dma0 d L fi) Finset.univ) = fl
  have hfl : ∀ x : S128x2x104.Idx, fl x = fi (at3 (base L + (x 0).val) (x 1).val (x 2).val) := fun x => by
    rw [← hx]; exact list_val L fi g0 x
  have hokl : ∀ x : S128x2x104.Idx, (fl x : BitVec 32).toNat < 100000 := fun x => by rw [hfl]; exact hok _
  ihave Hr := (Entails.of_eq (congrArg (fun S => ((rV).view.loc (VT d L) ↦[S]{fullShare} r0 : sProp 𝕄)) (ring_set inb_S2x2x104x128_S1x2x104x128_0_0_0_0 inb_S2x2x104x128_S1x2x104x128_1_0_0_0))) $$ Hr
  ihave Hr := (pointsTo_union (slot_disjoint _ _)).1 $$ Hr
  icases Hr with ⟨Hr0, Hr1⟩
  ihave Ht := (pointsTo_share (PosShare.mem_left_op_right qx)).1 $$ Ht
  icases Ht with ⟨Ht0, Ht1⟩
  ihave Hl := (pointsTo_share (PosShare.mem_left_op_right fullShare)).1 $$ Hl
  icases Hl with ⟨Hl0, Hl1⟩
  ihave HF := (show iprop(((rV).view.loc (VT d L) ↦[(slotM 0 inb_S2x2x104x128_S1x2x104x128_0_0_0_0).view.set]{fullShare} r0)
      ∗ (tblM.view.loc (VT d L) ↦[tblM.view.set]{qx.left} ft) ∗ ((lV).view.loc (VT d L) ↦{fullShare.left} fl) ∗ semVal (VT d L, SemLoc.dma cc0_scratch3.sem) 0)
      ⊢ (FR0 d L qx.left fullShare.left ft fl : sProp 𝕄) from by
    unfold FR0 Free
    iintro ⟨H0, H1, H2, H3⟩
    isplitl [H0]; · iexists r0; iexact H0
    isplitl [H1]; · iexact H1
    isplitl [H2]; · iexact H2
    iexact H3) $$ [Hr0 Ht0 Hl0 Hc0]
  · isplitl [Hr0]; · iexact Hr0
    isplitl [Ht0]; · iexact Ht0
    isplitl [Hl0]; · iexact Hl0
    iexact Hc0
  ihave HR := (show iprop(((rV).view.loc (VT d L) ↦[(slotM 1 inb_S2x2x104x128_S1x2x104x128_1_0_0_0).view.set]{fullShare} r0)
      ∗ (tblM.view.loc (VT d L) ↦[tblM.view.set]{qx.right} ft) ∗ ((lV).view.loc (VT d L) ↦{fullShare.right} fl) ∗ semVal (VT d L, SemLoc.dma cc0_scratch4.sem) 0)
      ⊢ (FR1 d L qx.right fullShare.right ft fl : sProp 𝕄) from by
    unfold FR1 Free
    iintro ⟨H0, H1, H2, H3⟩
    isplitl [H0]; · iexists r0; iexact H0
    isplitl [H1]; · iexact H1
    isplitl [H2]; · iexact H2
    iexact H3) $$ [Hr1 Ht1 Hl1 Hc1]
  · isplitl [Hr1]; · iexact Hr1
    isplitl [Ht1]; · iexact Ht1
    isplitl [Hl1]; · iexact Hl1
    iexact Hc1
  iapply (wp_issue d L (b := 0) (by decide) rfl rfl cc0_scratch3.sem hokl) $$ HF
  iintro HF
  sl_exec
  sl_for (ringInv d L qx.left fullShare.left qx.right fullShare.right ft fl O (insert (SemLoc.dma cc0_scoped0.sem, default) W)) $$ [HF HR Hp HO]
  case region =>
    intro k _
    exact trip_ring d L qx.left fullShare.left qx.right fullShare.right ft fl hokl O _ k
  · unfold ringInv Next
    isplitl [HF]; · rw [if_pos (by decide : 0 < 64)]; iexact HF
    isplitl [HR]; · iexact HR
    isplitl [Hp]
    · iexists p0; isplitr
      · ipureintro; intro z hz; exact absurd hz (by omega)
      iexact Hp
    isplitl [HO]
    · iexists _; isplitr; rotate_left; · iexact HO
      ipureintro; exact fun p hp => .inl hp
    iexact HM
  iintro %_ HI
  rw [show Scf.trips k0_t1_loop.lb k0_t1_loop.ub k0_t1_loop.st = 64 from by decide]
  ihave HI := (show ringInv d L qx.left fullShare.left qx.right fullShare.right ft fl O (insert (SemLoc.dma cc0_scoped0.sem, default) W) 64 ⟨⟩
      ⊢ iprop(FR0 d L qx.left fullShare.left ft fl ∗ FR1 d L qx.right fullShare.right ft fl ∗ (∃ g, ⌜Part ft fl 128 0 g⌝ ∗ ((pV).view.loc (VT d L) ↦{fullShare} g))
    ∗ (∃ W', ⌜∀ p ∈ W', p ∈ insert (SemLoc.dma cc0_scoped0.sem, (default : HIx 1)) W ∨ p.2 = none⌝ ∗ owes (VT d L) O W')) from by
      unfold ringInv Next
      rw [if_neg (by decide : ¬ 64 < 64)]
      iintro ⟨H0, H1, H2, H3, -⟩
      isplitl [H0]; · iexact H0
      isplitl [H1]; · iexact H1
      isplitl [H2]; · iexact H2
      iexact H3) $$ HI
  icases HI with ⟨HF, HR, ⟨%g, %hg, Hp⟩, ⟨%W', %hW, HO⟩⟩
  sl_exec
  sl_step
  ihave HF := (show (FR0 d L qx.left fullShare.left ft fl : sProp 𝕄) ⊢ iprop((∃ f, (rV).view.loc (VT d L) ↦[(slotM 0 inb_S2x2x104x128_S1x2x104x128_0_0_0_0).view.set]{fullShare} f)
      ∗ (tblM.view.loc (VT d L) ↦[tblM.view.set]{qx.left} ft) ∗ ((lV).view.loc (VT d L) ↦{fullShare.left} fl) ∗ semVal (VT d L, SemLoc.dma cc0_scratch3.sem) 0) from by
    unfold FR0 Free
    iintro ⟨H0, H1, H2, H3⟩
    isplitl [H0]; · iexact H0
    isplitl [H1]; · iexact H1
    isplitl [H2]; · iexact H2
    iexact H3) $$ HF
  ihave HR := (show (FR1 d L qx.right fullShare.right ft fl : sProp 𝕄) ⊢ iprop((∃ f, (rV).view.loc (VT d L) ↦[(slotM 1 inb_S2x2x104x128_S1x2x104x128_1_0_0_0).view.set]{fullShare} f)
      ∗ (tblM.view.loc (VT d L) ↦[tblM.view.set]{qx.right} ft) ∗ ((lV).view.loc (VT d L) ↦{fullShare.right} fl) ∗ semVal (VT d L, SemLoc.dma cc0_scratch4.sem) 0) from by
    unfold FR1 Free
    iintro ⟨H0, H1, H2, H3⟩
    isplitl [H0]; · iexact H0
    isplitl [H1]; · iexact H1
    isplitl [H2]; · iexact H2
    iexact H3) $$ HR
  icases HF with ⟨⟨%f0, Hr0⟩, Ht0, Hl0, Hc0⟩
  icases HR with ⟨⟨%f1, Hr1⟩, Ht1, Hl1, Hc1⟩
  ihave Hr := (pointsTo_join (ℓ := (rV).view.loc (VT d L)) (q := fullShare) (f := f0) (g := f1)
    (slot_disjoint inb_S2x2x104x128_S1x2x104x128_0_0_0_0 inb_S2x2x104x128_S1x2x104x128_1_0_0_0)) $$ [Hr0 Hr1]
  · isplitl [Hr0]; · iexact Hr0
    iexact Hr1
  ihave Ht := (pointsTo_share (ℓ := tblM.view.loc (VT d L)) (I := tblM.view.set) (f := ft) (PosShare.mem_left_op_right qx)).2 $$ [Ht0 Ht1]
  · isplitl [Ht0]; · iexact Ht0
    iexact Ht1
  ihave Hl := (pointsTo_share (ℓ := (lV).view.loc (VT d L)) (I := Finset.univ) (f := fl) (PosShare.mem_left_op_right fullShare)).2 $$ [Hl0 Hl1]
  · isplitl [Hl0]; · iexact Hl0
    iexact Hl1
  isplitl [Hi]; · iexact Hi
  isplitl [Ht]; · iexact Ht
  isplitl [Hob]
  · iapply (Entails.of_eq (pointsTo_congr (ℓ := (oBlkK L).view.loc (VT d L)) (q := fullShare) (fun i hi =>
      (congrFun (View.write_univ_eq_writes_whole (oBlkK L).view fo [] _).symm i).trans (out_val L ft fi fl hfl g hg fo i hi))))
    iexact Hob
  isplitl [Hl]; · iexists fl; iexact Hl
  isplitl [Hr]
  · iexists _
    iapply (Entails.of_eq (congrArg (fun S => ((rV).view.loc (VT d L) ↦[S]{fullShare} _ : sProp 𝕄)) (ring_set inb_S2x2x104x128_S1x2x104x128_0_0_0_0 inb_S2x2x104x128_S1x2x104x128_1_0_0_0).symm))
    iexact Hr
  isplitl [Hp]; · iexists g; iexact Hp
  isplitl [Hc0 Hc1 Hc2 Hc3]
  · isplitl [Hc0]; · iexact Hc0
    isplitl [Hc1]; · iexact Hc1
    isplitl [Hc2]; · iexact Hc2
    iexact Hc3
  iexists _; isplitr; rotate_left; · iexact HO
  ipureintro
  intro p hp
  rcases Finset.mem_insert.mp hp with rfl | hp
  · exact .inr rfl
  rcases hW p hp with h | h
  · rcases Finset.mem_insert.mp h with rfl | h
    · exact .inr rfl
    · exact .inl h
  · exact .inr h

end Cert.Proof.PoolI
-- ==== Proof.MlpI.lean ====
/- The TensorCore call of the kernel: the matrix products over one block of 512 rows as a pipeline of eight grid points.
   The body run by the symbolic executor, the pipeline's proof data over the arrays' contents at the call, and the call as a
   region that keeps the bound on the waits recorded before it. -/
module

public import proofs.«01_k».proof.Proof.TripI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Pipeline.RegionsLoop
public import Idealize.ShloMosaic.Lib.Ring
public import Idealize.ShloMosaic.Lib.WordCmp

@[expose] public section

set_option maxRecDepth 16384

noncomputable section

namespace Cert.Proof.PoolI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore pipelines' labels. -/
abbrev ΛP : Labels := Pipeline.Sig Λ₀ (Fin 1) fun p => (pcfgs (F := F) p).Adm
/-- The SparseCore calls' configuration. -/
abbrev K : SparseCore.Cfg τ sig (ΛP (F := F)) 1 := sc
/-- The pipelines' tables: there are none. -/
abbrev adm : (p : Fin 1) → (pcfgs (F := F) p).Adm := fun p => (cfgs p).toPCfg_adm

-- the arrays' contents when the call is entered, and the bound on the waits recorded before it
variable (W : Dev nD → Valuation τ sig (Elt F)) (b : ℕ)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = W c (Proc.devRef .tc (Pipeline.arrRef spec1 0)))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = W c (Proc.devRef .tc (Pipeline.arrRef spec1 1)))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = W c (Proc.devRef .tc (Pipeline.arrRef spec1 2)))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = W c (Proc.devRef .tc (Pipeline.arrRef spec1 3)))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) (HIx 1) ℕ UU ℕ cfg1 c) (hA : dat.A 4 = W c (Proc.devRef .tc (Pipeline.arrRef spec1 4)))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) (HIx 1) ℕ UU ℕ cfg1 c) (hA : dat.A 5 = W c (Proc.devRef .tc (Pipeline.arrRef spec1 5)))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) (HIx 1) ℕ UU ℕ cfg1 c) (hA : dat.A 6 = W c (Proc.devRef .tc (Pipeline.arrRef spec1 6)))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) (HIx 1) ℕ UU ℕ cfg1 c) (hA : dat.A 7 = W c (Proc.devRef .tc (Pipeline.arrRef spec1 7)))
    (hafter : ∀ t, dat.after 7 t = iblk W c 7 t) (t : Fin cfg1.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) (HIx 1) ℕ UU ℕ cfg1 c) (hA : dat.A 8 = W c (Proc.devRef .tc (Pipeline.arrRef spec1 8)))
    (hafter : ∀ t, dat.after 8 t = iblk W c 8 t) (t : Fin cfg1.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) (HIx 1) ℕ UU ℕ cfg1 c) (hA : dat.A 9 = W c (Proc.devRef .tc (Pipeline.arrRef spec1 9)))
    (hafter : ∀ t, dat.after 9 t = iblk W c 9 t) (t : Fin cfg1.N) (d) : dat.before 9 t d = iblk W c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of the block of token lists, -/
abbrev rc_0 : Rect S512x200 := Rect.unit (s := S512x200) ![0, 0] S512x200.size inb_S512x200_S512x200_0_0
/-- of the block of sums, -/
abbrev rc_1 : Rect S512x128 := Rect.unit (s := S512x128) ![0, 0] S512x128.size inb_S512x128_S512x128_0_0
/-- of the first matrix, -/
abbrev rc_2 : Rect S128x2048 := Rect.unit (s := S128x2048) ![0, 0] S128x2048.size inb_S128x2048_S128x2048_0_0
/-- of the first and the third bias, -/
abbrev rc_3 : Rect S1x2048 := Rect.unit (s := S1x2048) ![0, 0] S1x2048.size inb_S1x2048_S1x2048_0_0
/-- of the second matrix, -/
abbrev rc_4 : Rect S2048x1024 := Rect.unit (s := S2048x1024) ![0, 0] S2048x1024.size inb_S2048x1024_S2048x1024_0_0
/-- of the second bias, -/
abbrev rc_5 : Rect S1x1024 := Rect.unit (s := S1x1024) ![0, 0] S1x1024.size inb_S1x1024_S1x1024_0_0
/-- of the third matrix, -/
abbrev rc_6 : Rect S1024x2048 := Rect.unit (s := S1024x2048) ![0, 0] S1024x2048.size inb_S1024x2048_S1024x2048_0_0
/-- of the last matrix, -/
abbrev rc_7 : Rect S2048x128 := Rect.unit (s := S2048x128) ![0, 0] S2048x128.size inb_S2048x128_S2048x128_0_0
/-- and of the last bias. -/
abbrev rc_8 : Rect S1x128 := Rect.unit (s := S1x128) ![0, 0] S1x128.size inb_S1x128_S1x128_0_0

/-! ## What the body leaves in each output window's buffer -/

/-- Window 10's staging buffer after the body, from the input windows' blocks: its 1 store as pieces, LAST
    FIRST (Lib/Pipeline/FrameBody.lean `View.canon`; the payloads are the skeleton's). -/
def out1_10 (x0 : Vec F S512x200 .i32) (x1 : Vec F S512x128 .f32) (x2 : Vec F S128x2048 .f32) (x3 : Vec F S1x2048 .f32) (x4 : Vec F S2048x1024 .f32) (x5 : Vec F S1x1024 .f32) (x6 : Vec F S1024x2048 .f32) (x7 : Vec F S1x2048 .f32) (x8 : Vec F S2048x128 .f32) (x9 : Vec F S1x128 .f32) : Vec F S512x128 .f32 :=
  View.canon [⟨rc_1, k1_pay1 (k1_pay2 (View.ld x0 rc_0) (View.ld x1 rc_1) (View.ld x2 rc_2) (View.ld x3 rc_3) (View.ld x4 rc_4) (View.ld x5 rc_5) (View.ld x6 rc_6) (View.ld x7 rc_3)) (View.ld x8 rc_7) (View.ld x9 rc_8)⟩]

/-- Its stores tile the buffer (checked by evaluation), so they cover it. -/
theorem cover1_10 (p0 : Vec F S512x128 .f32) (y : S512x128.Idx) :
    ∃ pc ∈ ([⟨rc_1, p0⟩] : List (View.Piece (Elt F) S512x128 .f32)), y ∈ pc.1.set :=
  View.cover_of_tiled [⟨rc_1, p0⟩] S512x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S512x200 .i32) (harg1 : arg1.IsWhole) (arg2 : Memref sig .tc .vmem S512x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S512x128 .f32) (harg11 : arg11.IsWhole)
    (x0 : Vec F S512x200 .i32) (x1 : Vec F S512x128 .f32) (x2 : Vec F S128x2048 .f32) (x3 : Vec F S1x2048 .f32) (x4 : Vec F S2048x1024 .f32) (x5 : Vec F S1x1024 .f32) (x6 : Vec F S1024x2048 .f32) (x7 : Vec F S1x2048 .f32) (x8 : Vec F S2048x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) 𝒱₀ c none) E (cc1__mlp_body i arg1 harg1 arg2 harg2 arg3 harg3 arg4 harg4 arg5 harg5 arg6 harg6 arg7 harg7 arg8 harg8 arg9 harg9 arg10 harg10 arg11 harg11) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the one pipeline on core `c`: the arrays as the region finds them (`V`); after the body at
    point `t` each input's buffer at its block and each output's at `out1_W` of the input blocks; the invariant the
    class's (Lib/Pipeline/Frame.lean `ΦA`: the scoped rest and the generator register, untouched); nothing owed;
    full shares. -/
def dats (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => out1_10 (iblk W c 0 t) (iblk W c 1 t) (iblk W c 2 t) (iblk W c 3 t) (iblk W c 4 t) (iblk W c 5 t) (iblk W c 6 t) (iblk W c 7 t) (iblk W c 8 t) (iblk W c 9 t)
  Φ _ := Pipeline.scopedRest spec1 c
  q _ := fullShare
  owed _ := 0
  recorded _ := {p | (K (F := F)).lev (T c, p.1) p.2 ≤ b}

/-- The proof data's arrays are the region-entry contents: the proof data's definition projected (`dsimp`), so that
    `V` — a fold over @main's host prefix, long for some programs — is never unfolded to check it. -/
theorem A_eq (c : Dev nD) (w : Fin cfg1.W) : (dats W b c).A w = W c (Proc.devRef .tc (Pipeline.arrRef spec1 w)) := by
  dsimp only [dats]

/-- What the body leaves, window by window (the proof data's `match` reduced by `dsimp`, never `rfl`: Lib/Pipeline.lean `Dat`). -/
theorem after1_0 (c : Dev nD) (t : Fin cfg1.N) : (dats W b c).after 0 t = iblk W c 0 t := by dsimp only [dats]
/-- A step leaves operand 1's block as it was. -/
theorem after1_1 (c : Dev nD) (t : Fin cfg1.N) : (dats W b c).after 1 t = iblk W c 1 t := by dsimp only [dats]
/-- A step leaves operand 2's block as it was. -/
theorem after1_2 (c : Dev nD) (t : Fin cfg1.N) : (dats W b c).after 2 t = iblk W c 2 t := by dsimp only [dats]
/-- A step leaves operand 3's block as it was. -/
theorem after1_3 (c : Dev nD) (t : Fin cfg1.N) : (dats W b c).after 3 t = iblk W c 3 t := by dsimp only [dats]
/-- A step leaves operand 4's block as it was. -/
theorem after1_4 (c : Dev nD) (t : Fin cfg1.N) : (dats W b c).after 4 t = iblk W c 4 t := by dsimp only [dats]
/-- A step leaves operand 5's block as it was. -/
theorem after1_5 (c : Dev nD) (t : Fin cfg1.N) : (dats W b c).after 5 t = iblk W c 5 t := by dsimp only [dats]
/-- A step leaves operand 6's block as it was. -/
theorem after1_6 (c : Dev nD) (t : Fin cfg1.N) : (dats W b c).after 6 t = iblk W c 6 t := by dsimp only [dats]
/-- A step leaves operand 7's block as it was. -/
theorem after1_7 (c : Dev nD) (t : Fin cfg1.N) : (dats W b c).after 7 t = iblk W c 7 t := by dsimp only [dats]
/-- A step leaves operand 8's block as it was. -/
theorem after1_8 (c : Dev nD) (t : Fin cfg1.N) : (dats W b c).after 8 t = iblk W c 8 t := by dsimp only [dats]
/-- A step leaves operand 9's block as it was. -/
theorem after1_9 (c : Dev nD) (t : Fin cfg1.N) : (dats W b c).after 9 t = iblk W c 9 t := by dsimp only [dats]
/-- A step leaves the result's block at what the body computes of the operands' blocks. -/
theorem after1_10 (c : Dev nD) (t : Fin cfg1.N) : (dats W b c).after 10 t = out1_10 (iblk W c 0 t) (iblk W c 1 t) (iblk W c 2 t) (iblk W c 3 t) (iblk W c 4 t) (iblk W c 5 t) (iblk W c 6 t) (iblk W c 7 t) (iblk W c 8 t) (iblk W c 9 t) := by dsimp only [dats]

/-- Each input's current staging buffer holds its block at every point, fetched there or not (`beforeK_W_of`). -/
theorem before1_0 (c : Dev nD) (t : Fin cfg1.N) (d) : (dats W b c).before 0 t d = iblk W c 0 t :=
  before1_0_of W (dats W b c) (A_eq W b c 0) (after1_0 W b c) t d
/-- A step finds operand 1's block of its array. -/
theorem before1_1 (c : Dev nD) (t : Fin cfg1.N) (d) : (dats W b c).before 1 t d = iblk W c 1 t :=
  before1_1_of W (dats W b c) (A_eq W b c 1) (after1_1 W b c) t d
/-- A step finds operand 2's block of its array. -/
theorem before1_2 (c : Dev nD) (t : Fin cfg1.N) (d) : (dats W b c).before 2 t d = iblk W c 2 t :=
  before1_2_of W (dats W b c) (A_eq W b c 2) (after1_2 W b c) t d
/-- A step finds operand 3's block of its array. -/
theorem before1_3 (c : Dev nD) (t : Fin cfg1.N) (d) : (dats W b c).before 3 t d = iblk W c 3 t :=
  before1_3_of W (dats W b c) (A_eq W b c 3) (after1_3 W b c) t d
/-- A step finds operand 4's block of its array. -/
theorem before1_4 (c : Dev nD) (t : Fin cfg1.N) (d) : (dats W b c).before 4 t d = iblk W c 4 t :=
  before1_4_of W (dats W b c) (A_eq W b c 4) (after1_4 W b c) t d
/-- A step finds operand 5's block of its array. -/
theorem before1_5 (c : Dev nD) (t : Fin cfg1.N) (d) : (dats W b c).before 5 t d = iblk W c 5 t :=
  before1_5_of W (dats W b c) (A_eq W b c 5) (after1_5 W b c) t d
/-- A step finds operand 6's block of its array. -/
theorem before1_6 (c : Dev nD) (t : Fin cfg1.N) (d) : (dats W b c).before 6 t d = iblk W c 6 t :=
  before1_6_of W (dats W b c) (A_eq W b c 6) (after1_6 W b c) t d
/-- A step finds operand 7's block of its array. -/
theorem before1_7 (c : Dev nD) (t : Fin cfg1.N) (d) : (dats W b c).before 7 t d = iblk W c 7 t :=
  before1_7_of W (dats W b c) (A_eq W b c 7) (after1_7 W b c) t d
/-- A step finds operand 8's block of its array. -/
theorem before1_8 (c : Dev nD) (t : Fin cfg1.N) (d) : (dats W b c).before 8 t d = iblk W c 8 t :=
  before1_8_of W (dats W b c) (A_eq W b c 8) (after1_8 W b c) t d
/-- A step finds operand 9's block of its array. -/
theorem before1_9 (c : Dev nD) (t : Fin cfg1.N) (d) : (dats W b c).before 9 t d = iblk W c 9 t :=
  before1_9_of W (dats W b c) (A_eq W b c 9) (after1_9 W b c) t d

/-! ## The body obligation, at a generic point -/

/-- What the body is called with at point `t` (Lib/Pipeline.lean `BodyObligation`'s precondition, the windows one by one), -/
def bodyPre (c : Dev nD) (t : Fin cfg1.N) : sProp 𝕄 :=
  iprop((dats W b c).Φ t.castSucc ∗ (dats W b c).owesAt none t.castSucc
    ∗ (∃ d, owns (c : Thread nD τ) (st1_0 t) fullShare ((dats W b c).before 0 t d))
    ∗ (∃ d, owns (c : Thread nD τ) (st1_1 t) fullShare ((dats W b c).before 1 t d))
    ∗ (∃ d, owns (c : Thread nD τ) (st1_2 t) fullShare ((dats W b c).before 2 t d))
    ∗ (∃ d, owns (c : Thread nD τ) (st1_3 t) fullShare ((dats W b c).before 3 t d))
    ∗ (∃ d, owns (c : Thread nD τ) (st1_4 t) fullShare ((dats W b c).before 4 t d))
    ∗ (∃ d, owns (c : Thread nD τ) (st1_5 t) fullShare ((dats W b c).before 5 t d))
    ∗ (∃ d, owns (c : Thread nD τ) (st1_6 t) fullShare ((dats W b c).before 6 t d))
    ∗ (∃ d, owns (c : Thread nD τ) (st1_7 t) fullShare ((dats W b c).before 7 t d))
    ∗ (∃ d, owns (c : Thread nD τ) (st1_8 t) fullShare ((dats W b c).before 8 t d))
    ∗ (∃ d, owns (c : Thread nD τ) (st1_9 t) fullShare ((dats W b c).before 9 t d))
    ∗ (∃ d, owns (c : Thread nD τ) (st1_10 t) fullShare ((dats W b c).before 10 t d)))

/-- and what it returns. -/
def bodyPost (c : Dev nD) (t : Fin cfg1.N) : sProp 𝕄 :=
  iprop((dats W b c).Φ t.succ ∗ (dats W b c).owesAt none t.succ
    ∗ owns (c : Thread nD τ) (st1_0 t) fullShare ((dats W b c).after 0 t)
    ∗ owns (c : Thread nD τ) (st1_1 t) fullShare ((dats W b c).after 1 t)
    ∗ owns (c : Thread nD τ) (st1_2 t) fullShare ((dats W b c).after 2 t)
    ∗ owns (c : Thread nD τ) (st1_3 t) fullShare ((dats W b c).after 3 t)
    ∗ owns (c : Thread nD τ) (st1_4 t) fullShare ((dats W b c).after 4 t)
    ∗ owns (c : Thread nD τ) (st1_5 t) fullShare ((dats W b c).after 5 t)
    ∗ owns (c : Thread nD τ) (st1_6 t) fullShare ((dats W b c).after 6 t)
    ∗ owns (c : Thread nD τ) (st1_7 t) fullShare ((dats W b c).after 7 t)
    ∗ owns (c : Thread nD τ) (st1_8 t) fullShare ((dats W b c).after 8 t)
    ∗ owns (c : Thread nD τ) (st1_9 t) fullShare ((dats W b c).after 9 t)
    ∗ owns (c : Thread nD τ) (st1_10 t) fullShare ((dats W b c).after 10 t))

/-- The body at any point: the inputs' memrefs hold their blocks (`before1_W`), so `sound_kernel` applies; the invariant and
    the core's `owes` pass through unread. -/
theorem sound_body (c : Dev nD) (t : Fin cfg1.N) :
    bodyPre W b c t ⊢ wp frame (wpE (defs₀ (F := F)) 𝒱₀ c none) Set.univ (bodyAt1 t) (fun _ => bodyPost W b c t) := by
  unfold bodyPre bodyPost bodyAt1
  simp only [before1_0, before1_1, before1_2, before1_3, before1_4, before1_5, before1_6, before1_7, before1_8, before1_9]
  rw [show (dats W b c).Φ t.succ = (dats W b c).Φ t.castSucc from rfl,
    show (dats W b c).owesAt none t.succ = (dats W b c).owesAt none t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid1.coords t) _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) (iblk W c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt1` spells it. -/
theorem defs₀_row (t : Fin cfg1.N) :
    defs₀ (F := F) .tc cfg1.body (cfg1.bodyArgs t (cfg1.slots t)) = bodyAt1 t := rfl

/-- The library's body obligation, at every point: the body's triple restated (Lib/Pipeline/FrameBody.lean `triple_restated`). -/
theorem body_obligation (c : Dev nD) : BodyObligation (dats (F := F) W b c) (defs₀ (F := F)) 𝒱₀ none Set.univ := fun t => by
  rw [bigSep_W1, bigSep_W1, defs₀_row]
  exact triple_restated (sound_body W b c t) rfl .rfl fun _ => .rfl

/-! ## The call as a region -/

/-- The pipelines' proof data. -/
def pdats : (p : Fin 1) → (c : Dev nD) → Dat τ (Elt F) (HIx 1) ℕ UU ℕ (Pipeline.pin (pcfgs (F := F)) adm p) c
  | ⟨0, _⟩ => fun c => dats W b c

/-- The result array after the call. -/
def mlpOut (c : Dev nD) : Buf (Elt F) ((c : Thread nD τ).loc main_v7) := (dats W b c).arrAt 10 cfg1.N

/-- The arrays' contents after the call: the result array written, every other array as it was. -/
def Wp (c : Dev nD) : Valuation τ sig (Elt F) := Function.update (W c) (Proc.devRef .tc main_v7) (mlpOut W b c)

/-- The result array after the call, -/
theorem Wp_out (c : Dev nD) : Wp W b c (Proc.devRef .tc main_v7) = mlpOut W b c := Function.update_self _ _ _
/-- and every other array. -/
theorem Wp_ne (c : Dev nD) (r : Ref sig .tc) (h : r ≠ main_v7) : Wp W b c (Proc.devRef .tc r) = W c (Proc.devRef .tc r) :=
  Function.update_of_ne (fun e => h (Proc.devRef_injective _ e)) _ _

set_option backward.isDefEq.respectTransparency.types false in
/-- The call as a region of @main, over every unscoped buffer: the eleven arrays into the pipeline, the rest past it; the core
    owes nothing, and the waits it has recorded stay at or below level `b`. -/
def mlpReg (L : GSem nD τ sig → Finset (HIx 1)) (lv : GSem nD τ sig → HIx 1 → ℕ)
    (hw : ∀ c, (levAts L lv : sProp 𝕄) ⊢ Pipeline.cellsWaits (Pipeline.pin (pcfgs (F := F)) adm) (pdats W b) none 0 c) :
    Pipeline.RegionSeg (pcfgs (F := F)) adm (pdats W b) none defs₀ 𝒱₀ L lv 0 where
  win := launch1.win.to₀
  block_pos := launch1.block_pos
  stage_whole := launch1.stage_whole
  K := PEmpty
  osem k := k.elim
  ho := Pipeline.OwnSemFacts.none _
  hbody c := (body_obligation W b c).loose
  hwaits := hw
  pre c := iprop(unscopedBufs c (fun r => W c (Proc.devRef .tc r)) ∗ ∃ Wd, ⌜(K (F := F)).WBelow (T c) Wd b⌝ ∗ owes (T c) (0 : CellTallies nD τ sig (HIx 1)) Wd)
  post c := iprop(unscopedBufs c (fun r => Wp W b c (Proc.devRef .tc r)) ∗ ∃ Wd, ⌜(K (F := F)).WBelow (T c) Wd b⌝ ∗ owes (T c) (0 : CellTallies nD τ sig (HIx 1)) Wd)
  X _ := BI.emp
  Y _ := BI.emp
  Z c := Pipeline.unscopedRest (Ix := HIx 1) (Name := ℕ) (U := UU) (Lvl := ℕ) spec1 c (fun r => W c (Proc.devRef .tc r))
  hentry c := by
    rw [Pipeline.ownSems0_none]
    have hsplit := Pipeline.arrays_of_unscopedBufs (p := 0) (pcfgs (F := F)) adm (pdats W b) launch1.win launch1.arr_whole c
      ((pdats W b 0 c).share_full fun _ => rfl) (fun r => W c (Proc.devRef .tc r)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, %hWd, HO⟩; iexists Wd; isplitr; · ipureintro; exact fun p hp => Or.inl (hWd p hp)
      iexact HO
    isplitr; · iempintro
    iexact Hrest
  hin c := by
    rw [show (pdats W b 0 c).Φ 0 = Pipeline.scopedRest spec1 c from rfl]
    iintro ⟨-, -, Hr⟩; iexact Hr
  hout c := by
    rw [Pipeline.ownSems0_none, show (pdats W b 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W b) ((pdats W b 0 c).share_full fun _ => rfl) (fun r => W c (Proc.devRef .tc r)) (fun r => Wp W b c (Proc.devRef .tc r)) ((pdats W b 0 c).arrAt · cfg1.N)
      (fun w => by
        fin_cases w
        · exact ((pdats W b 0 c).arrAt_in 0 rfl _).trans (Wp_ne W b c main_arg0 (by decide)).symm
        · exact ((pdats W b 0 c).arrAt_in 1 rfl _).trans (Wp_ne W b c main_v2 (by decide)).symm
        · exact ((pdats W b 0 c).arrAt_in 2 rfl _).trans (Wp_ne W b c main_arg2 (by decide)).symm
        · exact ((pdats W b 0 c).arrAt_in 3 rfl _).trans (Wp_ne W b c main_v3 (by decide)).symm
        · exact ((pdats W b 0 c).arrAt_in 4 rfl _).trans (Wp_ne W b c main_arg4 (by decide)).symm
        · exact ((pdats W b 0 c).arrAt_in 5 rfl _).trans (Wp_ne W b c main_v4 (by decide)).symm
        · exact ((pdats W b 0 c).arrAt_in 6 rfl _).trans (Wp_ne W b c main_arg6 (by decide)).symm
        · exact ((pdats W b 0 c).arrAt_in 7 rfl _).trans (Wp_ne W b c main_v5 (by decide)).symm
        · exact ((pdats W b 0 c).arrAt_in 8 rfl _).trans (Wp_ne W b c main_arg8 (by decide)).symm
        · exact ((pdats W b 0 c).arrAt_in 9 rfl _).trans (Wp_ne W b c main_v6 (by decide)).symm
        · exact (Wp_out W b c).symm)
      (fun r hr => Wp_ne W b c r fun h => hr (h ▸ Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Wd, %hWd, HO⟩; iexists Wd
    isplitr
    · ipureintro; intro p hp
      rcases hWd hp with h | ⟨w, s, rfl⟩
      · exact h
      · exact Nat.zero_le _
    iexact HO

end Cert.Proof.PoolI

end
-- ==== Proof.DealI.lean ====
/- The SparseCore call, dealt out: what the TensorCore hands the two SparseCores and their sixteen vector subcores each, the
   task's obligation from `tile_run`, and the way the shares and the blocks split and join. -/
module

public import proofs.«01_k».proof.Proof.TileI
public import proofs.«01_k».proof.Proof.MlpI

@[expose] public section

noncomputable section

namespace Cert.Proof.PoolI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Fold

variable {F : FTy → Type} [FloatOps F]

local notation "𝕄" => MT nD τ sig (HIx 1) (Elt F) ℕ UU ℕ
local notation "iV" => (Memref.whole Cert.KernelIdeal.main_v1_scv : Memref Cert.KernelIdeal.sig Kind.scVector Space.hbm Cert.KernelIdeal.S4096x2x104 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "lV" => (Memref.whole Cert.KernelIdeal.cc0_scratch0 : Memref Cert.KernelIdeal.sig Kind.scVector Space.vmem Cert.KernelIdeal.S128x2x104 EltTy.i32)
local notation "rV" => (Memref.whole Cert.KernelIdeal.cc0_scratch1 : Memref Cert.KernelIdeal.sig Kind.scVector Space.vmem Cert.KernelIdeal.S2x2x104x128 EltTy.f32)
local notation "pV" => (Memref.whole Cert.KernelIdeal.cc0_scratch2 : Memref Cert.KernelIdeal.sig Kind.scVector Space.vmem Cert.KernelIdeal.S128x128 EltTy.f32)

/-! ## The program as the launch theorem takes it -/

/-- The definitions of the launch: the kernels', with the TensorCore call's regions. -/
abbrev D : Defs nD τ sig (Elt F) (ΛP (F := F)) := Pipeline.defs pcfgs defs₀
/-- The loop variants of the launch. -/
abbrev 𝒱 : Variants := 𝒱₀.lift
/-- The variant that a thread starts with. -/
abbrev v₀ : 𝒱.V := Sum.inl none
/-- Where the handshakes' state lies in the ghost state. -/
abbrev EH : Emb UH (MT nD τ sig (HIx 1) (Elt F) ℕ UU ℕ) := embL

/-- The configuration meets the library's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call runs on two SparseCores, -/
theorem cores : (K (F := F)).nCore 0 = 2 := rfl
/-- with sixteen tiles each. -/
theorem subs : (K (F := F)).nSub 0 = 16 := rfl

/-! ## The pieces -/

/-- The padded indices, the table and the pooled rows, where the TensorCore has them. -/
abbrev iLoc (d : Dev nD) : Loc nD τ sig := (SparseCore.T d).loc main_v1
/-- The table's place on a device. -/
abbrev tLoc (d : Dev nD) : Loc nD τ sig := (SparseCore.T d).loc main_arg1
/-- The place of the SparseCore call's result on a device. -/
abbrev oLoc (d : Dev nD) : Loc nD τ sig := (SparseCore.T d).loc main_v2

/-- A task's place in the grid. -/
def place (c : Fin 2) (i : Fin 16) : grid0.Coords :=
  fun | 0 => c | 1 => i | ⟨_ + 2, h⟩ => absurd h (Nat.not_lt.2 (Nat.le_add_left _ _))

/-- A core's share of what all tasks read, and a task's part of its core's share. -/
def coreQ (c : ℕ) : PosShare TreeShare := Transfers.shareTokN fullShare c
/-- The share of a read-only array that one tile gets. -/
def taskQ (c i : ℕ) : PosShare TreeShare := Transfers.shareTokN (coreQ c) i

/-- The elements of the pooled rows that task `(c, i)` writes. -/
abbrev oSet (p : Fin 2 × Fin 16) : Finset S4096x128.Idx := (oBlkK (place p.1 p.2)).view.set

/-- The block holds the rows `128 * (2 * i + c)` up to the next multiple. -/
theorem mem_oSet (p : Fin 2 × Fin 16) (z : S4096x128.Idx) : z ∈ oSet p ↔ (z 0).val / 128 = 2 * p.2.val + p.1.val := by
  have hw : ∀ (y : S128x128.Idx) (a : Fin 2), ((oBlkK (place p.1 p.2)).view.emb y a).val = k0_off54 (place p.1 p.2) a + 1 * (y a).val := fun _ _ => rfl
  have ho : k0_off54 (place p.1 p.2) = ![256 * p.2.val + 128 * p.1.val, 0] := k0_off54_eq (place p.1 p.2)
  rw [mem_vset]
  constructor
  · rintro ⟨y, rfl⟩
    have h := hw y 0
    rw [ho] at h
    have hy : (y 0).val < 128 := (y 0).isLt
    rw [h]
    show (256 * p.2.val + 128 * p.1.val + 1 * (y 0).val) / 128 = _
    omega
  · intro h
    have h1 : (z 1).val < 128 := (z 1).isLt
    refine ⟨fun | 0 => ⟨(z 0).val - (256 * p.2.val + 128 * p.1.val), ?_⟩ | 1 => ⟨(z 1).val, h1⟩, ?_⟩
    · show _ < 128; omega
    · funext a; apply Fin.ext; rw [hw, ho]
      match a with
      | 0 => show 256 * p.2.val + 128 * p.1.val + 1 * ((z 0).val - (256 * p.2.val + 128 * p.1.val)) = (z 0).val; omega
      | 1 => show 0 + 1 * (z 1).val = (z 1).val; omega

/-- Different tiles write different parts of the result. -/
theorem oSet_disjoint : ∀ p ∈ (Finset.univ : Finset (Fin 2 × Fin 16)), ∀ p' ∈ (Finset.univ : Finset (Fin 2 × Fin 16)), p ≠ p' → Disjoint (oSet p) (oSet p') := by
  intro p _ p' _ hne
  refine Finset.disjoint_left.mpr fun z h h' => hne ?_
  rw [mem_oSet] at h h'
  have h1 := p.1.isLt
  have h2 := p'.1.isLt
  exact Prod.ext (Fin.ext (by omega)) (Fin.ext (by omega))

/-- The tiles' parts make up the whole result. -/
theorem oSet_cover : (Finset.univ : Finset (Fin 2 × Fin 16)).biUnion oSet = Finset.univ := by
  refine Finset.eq_univ_of_forall fun z => Finset.mem_biUnion.mpr ?_
  have h0 : (z 0).val < 4096 := (z 0).isLt
  refine ⟨(⟨(z 0).val / 128 % 2, by omega⟩, ⟨(z 0).val / 256, by omega⟩), Finset.mem_univ _, ?_⟩
  rw [mem_oSet]
  show (z 0).val / 128 = 2 * ((z 0).val / 256) + (z 0).val / 128 % 2
  omega

/-- The pooled rows whole are the 32 blocks. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[oSet (c, i)]{fullShare} f := by
  refine Eq.trans ?_ (BI.bigSep_univ_prod (fun p : Fin 2 × Fin 16 => (oLoc d ↦[oSet p]{fullShare} f : sProp 𝕄)))
  rw [← pointsTo_biUnion Finset.univ (ℓ := oLoc d) oSet oSet_disjoint, oSet_cover]
  try rfl

/-- The numbers below `n`, from the finite type of them. -/
theorem range_univ (n : ℕ) : (Finset.univ : Finset (Fin n)).map Fin.valEmbedding = Finset.range n := by
  ext x; simp only [Finset.mem_map, Finset.mem_univ, true_and, Fin.valEmbedding_apply, Finset.mem_range]
  exact ⟨fun ⟨y, h⟩ => h ▸ y.isLt, fun h => ⟨⟨x, h⟩, rfl⟩⟩

/-- A read share in `n` numbered parts and what is left over. -/
theorem parts {ℓ : Loc nD τ sig} (f : Buf (Elt F) ℓ) (q : PosShare TreeShare) (n : ℕ) :
    (ℓ ↦{q} f : sProp 𝕄) = iprop((ℓ ↦{Transfers.shareDrop q n} f) ∗ bigSep Finset.univ fun i : Fin n => ℓ ↦{Transfers.shareTokN q i.val} f) := by
  have h := Transfers.pointsTo_toks_range (nD := nD) (τ := τ) (sig := sig) (Ix := HIx 1) (Val := Elt F) (Name := ℕ) (U := UU) (Lvl := ℕ)
    (ℓ := ℓ) (S := Finset.univ) (f := f) q n
  rw [← range_univ n, bigSep_map] at h
  exact BI.Entails.antisymm h.1 h.2

-- what the arrays hold when the call is made
variable (Vh : Dev nD → Valuation τ sig (Elt F))

/-- The contents of the three arrays at the call, and of the pooled rows after it. -/
abbrev ids (d : Dev nD) : Buf (Elt F) (iLoc d) := Vh d (Proc.devRef .tc main_v1)
/-- The table when the SparseCore call starts. -/
abbrev tab (d : Dev nD) : Buf (Elt F) (tLoc d) := Vh d (Proc.devRef .tc main_arg1)
/-- What the call's result array holds when it starts. -/
abbrev old (d : Dev nD) : Buf (Elt F) (oLoc d) := Vh d (Proc.devRef .tc main_v2)
/-- What that array holds when it ends. -/
abbrev new (d : Dev nD) : Buf (Elt F) (oLoc d) := outG (F := F) (tab Vh d) (ids Vh d)

/-- What a task holds, the pooled rows at `f`. -/
abbrev taskRes (d : Dev nD) (f : Buf (Elt F) (oLoc d)) (c : Fin 2) (i : Fin 16) : sProp 𝕄 :=
  iprop((iLoc d ↦{taskQ c.val i.val} ids Vh d) ∗ (tLoc d ↦{taskQ c.val i.val} tab Vh d) ∗ oLoc d ↦[oSet (c, i)]{fullShare} f)

/-- What a core holds, the pooled rows at `f`. -/
abbrev coreRes (d : Dev nD) (f : Buf (Elt F) (oLoc d)) (c : Fin 2) : sProp 𝕄 :=
  iprop((iLoc d ↦{coreQ c.val} ids Vh d) ∗ (tLoc d ↦{coreQ c.val} tab Vh d)
    ∗ bigSep Finset.univ fun i : Fin 16 => oLoc d ↦[oSet (c, i)]{fullShare} f)

/-- The call takes a read share of the indices and of the table to each core, and that core's blocks of the pooled rows; it
    brings them back, the blocks at the sums. -/
def P : (K (F := F)).Pay (nD := nD) (Val := Elt F) (Name := ℕ) (U := UU) where
  st := fun q d c => match q with | 0 => coreRes Vh d (old Vh d) (Fin.cast cores c)
  dn := fun q d c => match q with | 0 => coreRes Vh d (new Vh d) (Fin.cast cores c)
  go := fun q d c i => match q with | 0 => taskRes Vh d (old Vh d) (Fin.cast cores c) (Fin.cast subs i)
  td := fun q d c i => match q with | 0 => taskRes Vh d (new Vh d) (Fin.cast cores c) (Fin.cast subs i)
  x := fun _ _ => iprop(emp)

/-- What the handshakes carry may be stored in an invariant. -/
instance P_storable : (P (F := F) Vh).IsStorable where
  st q d c := match q with
    | 0 => (inferInstance : BI.Storable (upEmb : UEmb _ 𝕄) (coreRes Vh d (old Vh d) (Fin.cast cores c)))
  dn q d c := match q with
    | 0 => (inferInstance : BI.Storable (upEmb : UEmb _ 𝕄) (coreRes Vh d (new Vh d) (Fin.cast cores c)))
  go q d c i := match q with
    | 0 => (inferInstance : BI.Storable (upEmb : UEmb _ 𝕄) (taskRes Vh d (old Vh d) (Fin.cast cores c) (Fin.cast subs i)))
  td q d c i := match q with
    | 0 => (inferInstance : BI.Storable (upEmb : UEmb _ 𝕄) (taskRes Vh d (new Vh d) (Fin.cast cores c) (Fin.cast subs i)))

/-- Every index names a row of the table. -/
def InTable : Prop := ∀ (d : Dev nD) (x : S4096x2x104.Idx), (ids Vh d x : BitVec 32).toNat < 100000

/-! ## The task -/

section Task

variable (d : Dev nD) (L : grid0.Coords)

/-- The four transfer semaphores the task names, as a family. -/
abbrev dsem : Fin 4 → DmaSem sig := ![cc0_scratch3.sem, cc0_scratch4.sem, cc0_scoped0.sem, cc0_scoped1.sem]
/-- One of a tile's four copy counters. -/
abbrev dcell (d : Dev nD) (c : Fin τ.nSC) (i : Fin τ.nSub) (k : Fin 4) : GSem nD τ sig := (V d c i, .dma (dsem k))

/-- The four counters differ, -/
theorem dsem_inj : Function.Injective dsem := by decide +kernel
/-- and all four belong to the call. -/
theorem dsem_scoped : ∀ k : Fin 4, (SemLoc.dma (dsem k) : SemLoc sig).isScoped .scVector = true := by decide +kernel

/-- The subcore's own semaphores at zero are the four and the rest. -/
theorem own_sems :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => mem_ownCells.mpr ⟨rfl, dsem_scoped k⟩),
    SparseCore.bigSep_image_of_injOn (fun a _ b _ h => by
      have e := congrArg (fun g : GSem nD τ sig => g.2) h
      exact dsem_inj (SemLoc.dma.inj e))]
  rw [show (Finset.univ : Finset (Fin 4)) = {0, 1, 2, 3} by decide,
    SparseCore.bigSep_insert' (by decide), SparseCore.bigSep_insert' (by decide), SparseCore.bigSep_insert' (by decide), bigSep_singleton]
  rfl

/-- The subcore's own buffers are the three the task names and the rest. -/
theorem own_bufs :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have ne : ∀ {r r' : Ref sig .scVector}, r ≠ r' → (Proc.scVector (cV L) (jV L)).devRef r ≠ (Proc.scVector (cV L) (jV L)).devRef r' :=
    fun h e => h (Proc.devRef_injective _ e)
  have mem : ∀ r : Ref sig .scVector, ((Proc.scVector (cV L) (jV L)).devRef r).owner = .proc (Proc.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) h
  refine (SparseCore.bigSep_erase' (mem cc0_scratch0 rfl)).trans ?_
  rw [SparseCore.bigSep_erase' (Finset.mem_erase.mpr ⟨ne (show (cc0_scratch1 : Ref sig .scVector) ≠ cc0_scratch0 by decide), mem cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), mem cc0_scratch2 rfl⟩⟩)]

/-- The slice of the table the gathers name is all of it. -/
theorem tbl_set : tblM.view.set = Finset.univ := by
  refine Finset.eq_univ_of_forall fun z => (mem_vset tblM.view z).mpr ⟨z, ?_⟩
  funext a; apply Fin.ext
  show (![0, 0] : Fin 2 → ℕ) a + 1 * (z a).val = (z a).val
  match a with
  | 0 => show 0 + 1 * (z 0).val = (z 0).val; omega
  | 1 => show 0 + 1 * (z 1).val = (z 1).val; omega

/-- The task at place `(c, i)` from what the launch deals it to what it hands back. -/
theorem task (hF : (K (F := F)).Facts) (hok : InTable Vh) (c : Fin 2) (i : Fin 16) (O : CellTallies nD τ sig (HIx 1)) (W : Waits sig (HIx 1))
    (hO : ∀ g, O g none = 0) :
    iprop(levAts (K (F := F)).L (K (F := F)).lev ∗ emp ∗ taskRes Vh d (old Vh d) c i
        ∗ scopedBufs (VT d (place c i)) ∗ scopedSems0 (VT d (place c i)) ∗ owes (VT d (place c i)) O W)
      ⊢ wp frame (wpE (defs₀ (F := F)) 𝒱₀ (VT d (place c i)) none) Set.univ
          (cc0__sc_pool (place c i) iV (Memref.isWhole_whole _) xV (Memref.isWhole_whole _) oV (Memref.isWhole_whole _)
            lV (Memref.isWhole_whole _) rV (Memref.isWhole_whole _) pV (Memref.isWhole_whole _) cc0_scratch3 cc0_scratch4 cc0_scoped0 cc0_scoped1)
          fun _ => iprop(taskRes Vh d (new Vh d) c i
            ∗ scopedBufs (VT d (place c i)) ∗ scopedSems0 (VT d (place c i))
            ∗ ∃ W', ⌜∀ p ∈ W', p ∈ W ∨ p.2 = none ∨ p.2 = some (0 : Fin 1)⌝ ∗ owes (VT d (place c i)) O W') := by
  rw [(K (F := F)).scopedBufs_V hF d (cV (place c i)) (jV (place c i)),
    SparseCore.Cfg.scopedSems0_V (Val := Elt F) d (cV (place c i)) (jV (place c i)), own_sems, own_bufs]
  iintro ⟨#Hlv, -, ⟨Hi, Ht, Ho⟩, ⟨⟨%g0, HG⟩, ⟨%r0, HR⟩, ⟨%p0, HP⟩, Hbufs⟩, ⟨HC, Hsems⟩, HO⟩
  ihave Hmw := (show levAts (K (F := F)).L (K (F := F)).lev ⊢ Transfers.MayWaits (VT d (place c i)) (default : HIx 1) O from
    (K (F := F)).mayWaits_none (thr := VT d (place c i)) hO) $$ Hlv
  have hrun := tile_run (F := F) d (place c i) (taskQ c.val i.val) (taskQ c.val i.val) (ids Vh d) (tab Vh d) (hok d) (old Vh d) g0 r0 p0 O W
  rw [tbl_set, View.set_whole] at hrun
  iapply (wp_wand_r Idealize.ShloMosaic.frame (wpE (defs₀ (F := F)) 𝒱₀ (VT d (place c i)) none) Set.univ)
  isplitl [Hi Ht Ho HG HR HP HC HO]
  · iapply hrun
    isplitr; · iexact Hmw
    isplitl [Hi]; · iexact Hi
    isplitl [Ht]; · iexact Ht
    isplitl [Ho]; · iexact Ho
    isplitl [HG]; · iexact HG
    isplitl [HR]; · iexact HR
    isplitl [HP]; · iexact HP
    isplitl [HC]; · iexact HC
    iexact HO
  iintro %_ ⟨Hi, Ht, Ho, ⟨%g, HG⟩, ⟨%r, HR⟩, ⟨%p, HP⟩, HC, ⟨%W', %hW', HO⟩⟩
  isplitl [Hi Ht Ho]
  · isplitl [Hi]; · iexact Hi
    isplitl [Ht]; · iexact Ht
    iexact Ho
  isplitl [HG HR HP Hbufs]
  · isplitl [HG]; · iexists _; iexact HG
    isplitl [HR]; · iexists _; iexact HR
    isplitl [HP]; · iexists _; iexact HP
    iexact Hbufs
  isplitl [HC Hsems]
  · isplitl [HC]; · iexact HC
    iexact Hsems
  iexists W'; isplitr
  · ipureintro; intro p hp
    rcases hW' p hp with h | h
    · exact .inl h
    · exact .inr (.inl h)
  · iexact HO

end Task

/-! ## The launch's obligations -/

/-- The task that a tile runs is the kernel's body at its coordinates. -/
theorem defs₀_vector (c : Fin τ.nSC) (s : Fin τ.nSub) :
    defs₀ (F := F) (.scVector c s) 0 ()
      = SparseCore.onTile hcore0 hsub0 (fun c s => cc0__sc_pool (place c s)
          iV (Memref.isWhole_whole _) xV (Memref.isWhole_whole _) oV (Memref.isWhole_whole _)
          lV (Memref.isWhole_whole _) rV (Memref.isWhole_whole _) pV (Memref.isWhole_whole _) cc0_scratch3 cc0_scratch4 cc0_scoped0 cc0_scoped1) ⟨⟩ c s := rfl

/-- Every tile's task runs, from what it is dealt to what it gives back. -/
theorem tileObl (hok : InTable Vh) : (K (F := F)).TileObl (D (F := F)) 𝒱 (P Vh) v₀ 0 := by
  intro d c i O W hO _ _
  simp only [show (P Vh).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task Vh d facts hok (Fin.cast cores c) (Fin.cast subs i) O W hO

/-- Regrouping of a conjunction. -/
theorem regroup (A B C D E : sProp 𝕄) : (iprop((A ∗ B) ∗ (C ∗ D) ∗ E) : sProp 𝕄) = iprop((A ∗ C) ∗ B ∗ D ∗ E) := by
  have h1 : (iprop((A ∗ B) ∗ (C ∗ D) ∗ E) : sProp 𝕄) ⊢ iprop((A ∗ C) ∗ B ∗ D ∗ E) := by
    iintro ⟨⟨H1, H2⟩, ⟨H3, H4⟩, H5⟩
    isplitl [H1 H3]
    · isplitl [H1] <;> iassumption
    isplitl [H2]; · iassumption
    isplitl [H4] <;> iassumption
  have h2 : (iprop((A ∗ C) ∗ B ∗ D ∗ E) : sProp 𝕄) ⊢ iprop((A ∗ B) ∗ (C ∗ D) ∗ E) := by
    iintro ⟨⟨H1, H3⟩, H2, H4, H5⟩
    isplitl [H1 H2]
    · isplitl [H1] <;> iassumption
    isplitl [H3 H4]
    · isplitl [H3] <;> iassumption
    iassumption
  exact BI.Entails.antisymm h1 h2

/-- A core's resources are its tasks' and what is left of its two read shares. -/
theorem coreRes_tasks (d : Dev nD) (f : Buf (Elt F) (oLoc d)) (c : Fin 2) :
    (coreRes Vh d f c : sProp 𝕄)
      = iprop(((iLoc d ↦{Transfers.shareDrop (coreQ c.val) 16} ids Vh d) ∗ (tLoc d ↦{Transfers.shareDrop (coreQ c.val) 16} tab Vh d))
          ∗ bigSep Finset.univ fun i : Fin 16 => taskRes Vh d f c i) := by
  unfold coreRes taskRes
  rw [bigSep_sep', bigSep_sep', parts (ids Vh d) (coreQ c.val) 16, parts (tab Vh d) (coreQ c.val) 16]
  unfold taskQ
  exact regroup _ _ _ _ _

/-- The same conjunction over the sixteen tiles, however they are counted, -/
theorem tasks_cast (Φ : Fin 16 → sProp 𝕄) :
    (bigSep Finset.univ fun i : Fin ((K (F := F)).nSub 0) => Φ (Fin.cast subs i)) = bigSep Finset.univ Φ :=
  bigSep_congr fun _ _ => congrArg Φ (Fin.ext rfl)
/-- and over the two SparseCores. -/
theorem cores_cast (Φ : Fin 2 → sProp 𝕄) :
    (bigSep Finset.univ fun c : Fin ((K (F := F)).nCore 0) => Φ (Fin.cast cores c)) = bigSep Finset.univ Φ :=
  bigSep_congr fun _ _ => congrArg Φ (Fin.ext rfl)

/-- What a SparseCore is dealt splits among its tiles, and what they give back joins again. -/
theorem vecSplit : (K (F := F)).VecSplit' (P Vh) 0 := by
  intro d c
  show (coreRes Vh d (old Vh d) (Fin.cast cores c) : sProp 𝕄) ⊢ |={Set.univ}=> iprop(
      (bigSep Finset.univ fun i : Fin ((K (F := F)).nSub 0) => taskRes Vh d (old Vh d) (Fin.cast cores c) (Fin.cast subs i))
      ∗ ((bigSep Finset.univ fun i : Fin ((K (F := F)).nSub 0) => taskRes Vh d (new Vh d) (Fin.cast cores c) (Fin.cast subs i))
          -∗ coreRes Vh d (new Vh d) (Fin.cast cores c)))
  rw [tasks_cast (F := F) (fun i => taskRes Vh d (old Vh d) (Fin.cast cores c) i),
    tasks_cast (F := F) (fun i => taskRes Vh d (new Vh d) (Fin.cast cores c) i), coreRes_tasks, coreRes_tasks]
  iintro ⟨Hd, H⟩; imodintro
  isplitl [H]; · iexact H
  iintro H'
  isplitl [Hd]; · iexact Hd
  iexact H'

/-- All the TensorCore holds of the three arrays is what it keeps of the two read shares and what the cores take. -/
theorem cores_split (d : Dev nD) (f : Buf (Elt F) (oLoc d)) :
    (iprop((iLoc d ↦{fullShare} ids Vh d) ∗ (tLoc d ↦{fullShare} tab Vh d) ∗ oLoc d ↦{fullShare} f) : sProp 𝕄)
      = iprop(((iLoc d ↦{Transfers.shareDrop fullShare 2} ids Vh d) ∗ (tLoc d ↦{Transfers.shareDrop fullShare 2} tab Vh d))
          ∗ bigSep Finset.univ fun c : Fin 2 => coreRes Vh d f c) := by
  unfold coreRes
  rw [bigSep_sep', bigSep_sep', parts (ids Vh d) fullShare 2, parts (tab Vh d) fullShare 2, oPts_blocks]
  unfold coreQ
  exact regroup _ _ _ _ _

/-- What the call takes at its start, written out. -/
theorem st_eq (d : Dev nD) : (bigSep Finset.univ fun c : Fin ((K (F := F)).nCore 0) => (P Vh).st 0 d c) = (bigSep Finset.univ fun c : Fin 2 => coreRes Vh d (old Vh d) c : sProp 𝕄) :=
  cores_cast (F := F) (fun c => coreRes Vh d (old Vh d) c)
/-- What it gives back at its end, written out. -/
theorem dn_eq (d : Dev nD) : (bigSep Finset.univ fun c : Fin ((K (F := F)).nCore 0) => (P Vh).dn 0 d c) = (bigSep Finset.univ fun c : Fin 2 => coreRes Vh d (new Vh d) c : sProp 𝕄) :=
  cores_cast (F := F) (fun c => coreRes Vh d (new Vh d) c)

end Cert.Proof.PoolI

end
-- ==== Proof.LaunchI.lean ====
/- The kernel's program run whole: the index operations on the host, the SparseCore call, the bias reshapes, the TensorCore
   call, and what every array holds at the end. -/
module

public import proofs.«01_k».proof.Proof.DealI

@[expose] public section

set_option maxRecDepth 16384

noncomputable section

namespace Cert.Proof.PoolI

open Cert.KernelIdeal Cert.KernelIdeal.Gen

open Idealize.ShloMosaic Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline's own part of the user algebra. -/
abbrev EP : Emb UP (MT nD τ sig (HIx 1) (Elt F) ℕ UU ℕ) := (Emb.inl : Emb UP (UP × Counters)).trans embR

/-! ## What the arrays hold, step by step -/

/-- A reference of the TensorCore as the device names it. -/
abbrev rf (r : Ref sig .tc) : DevRef τ sig := Proc.devRef .tc r

/-- The host's zero, -/
abbrev opZero : HloOp τ sig (Elt F) := StableHlo.nullary main_c (constantI S_ 32 0#32)
/-- its copy, -/
abbrev opCopy : HloOp τ sig (Elt F) := StableHlo.TRef.unary (.of main_c) main_call0.v0 id
/-- the padding of the token lists, -/
abbrev opPad : HloOp τ sig (Elt F) := StableHlo.TRef.binary (.of main_arg0 : StableHlo.TRef sig ⟨S4096x200, .i32⟩) main_call0.v0 main_call0.v1
  (fun x v => pad S4096x208 ![0, 0] ![0, 8] ![0, 0] x v pads_S4096x200_S4096x208_000_080 h_S_)
/-- their split into halves, -/
abbrev opLists : HloOp τ sig (Elt F) := StableHlo.reshape main_v0 main_v1 (rfl : (.i32 : EltTy) = .i32) shapeCasts_S4096x208_S4096x2x104
/-- and the biases as matrices of one row: the first, -/
abbrev opB0 : HloOp τ sig (Elt F) := StableHlo.reshape main_arg3 main_v3 (rfl : (.f32 : EltTy) = .f32) shapeCasts_S2048_S1x2048
/-- the second, -/
abbrev opB1 : HloOp τ sig (Elt F) := StableHlo.reshape main_arg5 main_v4 (rfl : (.f32 : EltTy) = .f32) shapeCasts_S1024_S1x1024
/-- the third, -/
abbrev opB2 : HloOp τ sig (Elt F) := StableHlo.reshape main_arg7 main_v5 (rfl : (.f32 : EltTy) = .f32) shapeCasts_S2048_S1x2048
/-- and the last. -/
abbrev opB3 : HloOp τ sig (Elt F) := StableHlo.reshape main_arg9 main_v6 (rfl : (.f32 : EltTy) = .f32) shapeCasts_S128_S1x128

variable (m : (ℓ : Loc nD τ sig) → Buf (Elt F) ℓ) (ρ : Dev nD → PrngReg)

/-- At the start; when the SparseCore call is made; after it; when the TensorCore call is made; at the end. -/
def V0 (d : Dev nD) : Valuation τ sig (Elt F) := fun b => m (d, b)
/-- What the arrays hold when the SparseCore call starts, -/
def Vh (d : Dev nD) : Valuation τ sig (Elt F) := opLists.result (opPad.result (opCopy.result (opZero.result (V0 m d))))
/-- when it ends, -/
def V2 (d : Dev nD) : Valuation τ sig (Elt F) := Function.update (Vh m d) (rf main_v2) (new (Vh m) d)
/-- when the TensorCore call starts, -/
def V3 (d : Dev nD) : Valuation τ sig (Elt F) := opB3.result (opB2.result (opB1.result (opB0.result (V2 m d))))

/-- The bound on the waits recorded up to the end of the SparseCore call. -/
abbrev bnd : ℕ := 8 * (SparseCore.Cfg.Blocks.one 1).fst 1
/-- and at the end. -/
def Vf (d : Dev nD) : Valuation τ sig (Elt F) := Wp (V3 m) bnd d

/-! ## The TensorCore call -/

/-- Different counters of the TensorCore call lie in different cells. -/
abbrev phinj : Function.Injective (Pipeline.cellOf (nD := nD) (τ := τ) (Pipeline.pin (pcfgs (F := F)) adm)) := cellOf_inj
/-- The pipeline's cells' share of the ghost state. -/
abbrev PG (d : Dev nD) : sProp 𝕄 :=
  iprop(Pipeline.cellsGhost (Pipeline.pin (pcfgs (F := F)) adm) EP 0 d ∗ Pipeline.toksInit (Pipeline.pin (pcfgs (F := F)) adm) EP 0 d)

/-- The region of the TensorCore call, the arrays at `W`. -/
abbrev reg (W : Dev nD → Valuation τ sig (Elt F)) (b : ℕ) :
    Pipeline.RegionSeg (pcfgs (F := F)) adm (pdats W b) none defs₀ 𝒱₀ (K (F := F)).L (K (F := F)).lev 0 :=
  mlpReg W b (K (F := F)).L (K (F := F)).lev (Pipeline.hwaits_of_owed_zero _ _ _ _ (K (F := F)).L (K (F := F)).lev 0 fun _ _ => rfl)

/-- What the TensorCore holds around its call: every array at `W`, and nothing owed. -/
abbrev around (W : Dev nD → Valuation τ sig (Elt F)) (b : ℕ) (d : Dev nD) : sProp 𝕄 :=
  iprop(unscopedBufs d (fun r => W d (rf r)) ∗ ∃ Wd, ⌜(K (F := F)).WBelow (SparseCore.T d) Wd b⌝ ∗ owes (SparseCore.T d) (0 : CellTallies nD τ sig (HIx 1)) Wd)

/-- The TensorCore call runs, and leaves its result array at what `Wp` says. -/
theorem mlp_call [∀ e, Nonempty (Elt F e)] (W : Dev nD → Valuation τ sig (Elt F)) (b : ℕ) (d : Dev nD) (Q : PUnit → sProp 𝕄) :
    iprop((iprop(boundary (SparseCore.T d : Thread nD τ) ∗ around (Wp W b) b d) -∗ Q ⟨⟩)
        ∗ boundary (SparseCore.T d : Thread nD τ) ∗ around W b d ∗ levAts (K (F := F)).L (K (F := F)).lev ∗ PG (F := F) d)
      ⊢ wp frame (wpE ((K (F := F)).defs (D (F := F))) 𝒱 (SparseCore.T d) none) Set.univ
          (Prog.lift (.customCall (SparseCore.inner (Pipeline.entry 0)) ())) Q := by
  have h := (K (F := F)).wp_liftProg (D (F := F)) 𝒱 (SparseCore.T d : Thread nD τ) (Set.univ : Set ℕ) none
    (Prog.lift (.customCall (Pipeline.entry 0) ())) Q
  refine BI.Entails.trans ?_ h
  have h2 := Pipeline.RegionSeg.wp (pcfgs (F := F)) adm (pdats W b) none phinj EP defs₀ 𝒱₀ (K (F := F)).L (K (F := F)).lev (reg W b) d none
    (fun u hu => nomatch hu) (fun _ => .ret ⟨⟩) Q
  refine BI.Entails.trans ?_ h2
  show (_ : sProp 𝕄) ⊢ _
  have hpre : around W b d ⊢ (reg W b).pre d := Entails.of_eq rfl
  have hpost : (reg W b).post d ⊢ around (Wp W b) b d := Entails.of_eq rfl
  iintro ⟨HQ, Hb, Hp, Hl, Hg, Ht⟩
  isplitl [HQ]
  · iintro ⟨Hb, H⟩
    rw [wp_ret]; imodintro
    iapply HQ
    isplitl [Hb]; · iexact Hb
    iapply hpost; iexact H
  isplitl [Hb]; · iexact Hb
  isplitl [Hp]; · iapply hpre; iexact Hp
  isplitl [Hl]; · iexact Hl
  isplitl [Hg]; · iexact Hg
  iexact Ht

/-! ## @main -/

/-- All arrays held, in the two ways of writing it. -/
theorem all_held (d : Dev nD) (W : Valuation τ sig (Elt F)) :
    (unscopedBufs d (fun r => W (rf r)) : sProp 𝕄) = StableHlo.held (SparseCore.T d) (Pipeline.ucRefs τ sig) W := Pipeline.unscopedBufs_held d W

/-- Every array that a host operation touches is at hand: for the zero, -/
theorem inZero : (opZero (F := F)).bufs ⊆ Pipeline.ucRefs τ sig := show ({rf main_c} : Finset (DevRef τ sig)) ⊆ _ by decide
/-- its copy, -/
theorem inCopy : (opCopy (F := F)).bufs ⊆ Pipeline.ucRefs τ sig := show ({rf main_c, rf main_call0_v0} : Finset (DevRef τ sig)) ⊆ _ by decide
/-- the padding, -/
theorem inPad : (opPad (F := F)).bufs ⊆ Pipeline.ucRefs τ sig := show ({rf main_arg0, rf main_call0_v0, rf main_v0} : Finset (DevRef τ sig)) ⊆ _ by decide
/-- the split into halves, -/
theorem inLists : (opLists (F := F)).bufs ⊆ Pipeline.ucRefs τ sig := show ({rf main_v0, rf main_v1} : Finset (DevRef τ sig)) ⊆ _ by decide
/-- and the four biases, the first, -/
theorem inB0 : (opB0 (F := F)).bufs ⊆ Pipeline.ucRefs τ sig := show ({rf main_arg3, rf main_v3} : Finset (DevRef τ sig)) ⊆ _ by decide
/-- the second, -/
theorem inB1 : (opB1 (F := F)).bufs ⊆ Pipeline.ucRefs τ sig := show ({rf main_arg5, rf main_v4} : Finset (DevRef τ sig)) ⊆ _ by decide
/-- the third, -/
theorem inB2 : (opB2 (F := F)).bufs ⊆ Pipeline.ucRefs τ sig := show ({rf main_arg7, rf main_v5} : Finset (DevRef τ sig)) ⊆ _ by decide
/-- and the last. -/
theorem inB3 : (opB3 (F := F)).bufs ⊆ Pipeline.ucRefs τ sig := show ({rf main_arg9, rf main_v6} : Finset (DevRef τ sig)) ⊆ _ by decide

/-- The three arrays of the SparseCore call. -/
abbrev three : Finset (DevRef τ sig) := {rf main_v1, rf main_arg1, rf main_v2}
/-- The SparseCore call's three arrays are at hand. -/
theorem three_sub : three ⊆ Pipeline.ucRefs τ sig := by decide
/-- These three, one by one. -/
theorem held_three (d : Dev nD) (W : Valuation τ sig (Elt F)) :
    (StableHlo.held (SparseCore.T d) three W : sProp 𝕄)
      = iprop((iLoc d ↦{fullShare} W (rf main_v1)) ∗ (tLoc d ↦{fullShare} W (rf main_arg1)) ∗ oLoc d ↦{fullShare} W (rf main_v2)) := by
  unfold StableHlo.held
  rw [SparseCore.bigSep_insert' (by decide), SparseCore.bigSep_insert' (by decide), bigSep_singleton]

/-- The arrays at the call: the three, and the rest. -/
theorem before_call (d : Dev nD) :
    (StableHlo.held (SparseCore.T d) (Pipeline.ucRefs τ sig) (Vh m d) : sProp 𝕄)
      = iprop(((iLoc d ↦{fullShare} ids (Vh m) d) ∗ (tLoc d ↦{fullShare} tab (Vh m) d) ∗ oLoc d ↦{fullShare} old (Vh m) d)
          ∗ StableHlo.held (SparseCore.T d) (Pipeline.ucRefs τ sig \ three) (Vh m d)) := by
  rw [StableHlo.held_sub_split (c := SparseCore.T d) three_sub (Vh m d), held_three]

/-- The arrays after it. -/
theorem after_call (d : Dev nD) :
    (StableHlo.held (SparseCore.T d) (Pipeline.ucRefs τ sig) (V2 m d) : sProp 𝕄)
      = iprop(((iLoc d ↦{fullShare} ids (Vh m) d) ∗ (tLoc d ↦{fullShare} tab (Vh m) d) ∗ oLoc d ↦{fullShare} new (Vh m) d)
          ∗ StableHlo.held (SparseCore.T d) (Pipeline.ucRefs τ sig \ three) (Vh m d)) := by
  rw [StableHlo.held_sub_split (c := SparseCore.T d) three_sub (V2 m d), held_three,
    StableHlo.held_congr (c := SparseCore.T d) (S := Pipeline.ucRefs τ sig \ three) (V := V2 m d) (V' := Vh m d)
      (fun b hb => Function.update_of_ne (fun e : b = rf main_v2 => (Finset.mem_sdiff.mp hb).2 (by rw [e]; decide)) _ _),
    show V2 m d (rf main_v1) = ids (Vh m) d from Function.update_of_ne (by decide) _ _,
    show V2 m d (rf main_arg1) = tab (Vh m) d from Function.update_of_ne (by decide) _ _,
    show V2 m d (rf main_v2) = new (Vh m) d from Function.update_self _ _ _]

/-- What @main leaves: every array at the end's contents. -/
abbrev FIN (d : Dev nD) : sProp 𝕄 := unscopedBufs d (fun r => Vf m d (rf r))

/-- @main on device `d`'s TensorCore. -/
theorem hmain [∀ e, Nonempty (Elt F e)] (κ : GSem nD τ sig → ℕ) (d : Dev nD) :
    iprop((K (F := F)).ctx EH (P (Vh m)) κ ∗ (K (F := F)).tcSt EH d 0 ∗ (K (F := F)).tcRes m ρ d ∗ PG (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    all_held d (V0 m d)]
  simp only [main, fn_pad.body, wp_bind, wp_pure]
  iintro ⟨#Hctx, Hst, ⟨Hb, Hheld, Hts, -⟩, HG⟩
  iapply (wp_hlo_within 𝒱 (SparseCore.T d) none Set.univ (op := opZero) (S := Pipeline.ucRefs τ sig) inZero (V := V0 m d)) $$ [Hb Hheld]
  · isplitl [Hb] <;> iassumption
  iintro ⟨Hb, Hheld⟩
  rw [wp_ret]; imodintro
  iapply (wp_hlo_within 𝒱 (SparseCore.T d) none Set.univ (op := opCopy) (S := Pipeline.ucRefs τ sig) inCopy (V := opZero.result (V0 m d))) $$ [Hb Hheld]
  · isplitl [Hb] <;> iassumption
  iintro ⟨Hb, Hheld⟩
  rw [wp_ret]; imodintro
  iapply (wp_hlo_within 𝒱 (SparseCore.T d) none Set.univ (op := opPad) (S := Pipeline.ucRefs τ sig) inPad
    (V := opCopy.result (opZero.result (V0 m d)))) $$ [Hb Hheld]
  · isplitl [Hb] <;> iassumption
  iintro ⟨Hb, Hheld⟩
  rw [wp_ret]; imodintro; imodintro
  iapply (wp_hlo_within 𝒱 (SparseCore.T d) none Set.univ (op := opLists) (S := Pipeline.ucRefs τ sig) inLists
    (V := opPad.result (opCopy.result (opZero.result (V0 m d))))) $$ [Hb Hheld]
  · isplitl [Hb] <;> iassumption
  iintro ⟨Hb, Hheld⟩
  rw [wp_ret]; imodintro
  -- the SparseCore call
  ihave Hh := (Entails.of_eq (show StableHlo.held (SparseCore.T d) (Pipeline.ucRefs τ sig) (opLists.result (opPad.result (opCopy.result (opZero.result (V0 m d))))) = _ from
    before_call (F := F) m d)) $$ Hheld
  icases Hh with ⟨H3, Hrest⟩
  ihave H3' := (Entails.of_eq (cores_split (F := F) (Vh m) d (old (Vh m) d))) $$ H3
  icases H3' with ⟨Hkeep, Hst0⟩
  iapply ((K (F := F)).wp_run (D (F := F)) 𝒱 (EH := EH) (P := P (Vh m)) κ d 0) $$ [Hst Hst0 Hkeep Hrest Hb Hts HG]
  isplitr; · iexact Hctx
  isplitl [Hst]; · iexact Hst
  isplitl [Hst0]
  · rw [st_eq]; iexact Hst0
  iintro ⟨Hst, Hdn⟩
  ihave Hdn' := (Entails.of_eq (dn_eq (F := F) (Vh m) d)) $$ Hdn
  ihave H3 := (Entails.of_eq (cores_split (F := F) (Vh m) d (new (Vh m) d)).symm) $$ [Hkeep Hdn']
  · isplitl [Hkeep] <;> iassumption
  ihave Hheld := (Entails.of_eq (after_call (F := F) m d).symm) $$ [H3 Hrest]
  · isplitl [H3] <;> iassumption
  -- the biases
  iapply (wp_hlo_within 𝒱 (SparseCore.T d) none Set.univ (op := opB0) (S := Pipeline.ucRefs τ sig) inB0 (V := V2 m d)) $$ [Hb Hheld]
  · isplitl [Hb] <;> iassumption
  iintro ⟨Hb, Hheld⟩
  rw [wp_ret]; imodintro
  iapply (wp_hlo_within 𝒱 (SparseCore.T d) none Set.univ (op := opB1) (S := Pipeline.ucRefs τ sig) inB1 (V := opB0.result (V2 m d))) $$ [Hb Hheld]
  · isplitl [Hb] <;> iassumption
  iintro ⟨Hb, Hheld⟩
  rw [wp_ret]; imodintro
  iapply (wp_hlo_within 𝒱 (SparseCore.T d) none Set.univ (op := opB2) (S := Pipeline.ucRefs τ sig) inB2 (V := opB1.result (opB0.result (V2 m d)))) $$ [Hb Hheld]
  · isplitl [Hb] <;> iassumption
  iintro ⟨Hb, Hheld⟩
  rw [wp_ret]; imodintro
  iapply (wp_hlo_within 𝒱 (SparseCore.T d) none Set.univ (op := opB3) (S := Pipeline.ucRefs τ sig) inB3
    (V := opB2.result (opB1.result (opB0.result (V2 m d))))) $$ [Hb Hheld]
  · isplitl [Hb] <;> iassumption
  iintro ⟨Hb, Hheld⟩
  rw [wp_ret]; imodintro
  -- the TensorCore call
  ihave Hub := (Entails.of_eq (show StableHlo.held (SparseCore.T d) (Pipeline.ucRefs τ sig) (opB3.result (opB2.result (opB1.result (opB0.result (V2 m d))))) = _ from
    (all_held (F := F) d (V3 m d)).symm)) $$ Hheld
  ihave Hst' := (Entails.of_eq (show (K (F := F)).tcSt EH d ((0 : Fin 1).val + 1) = (K (F := F)).tcSt EH d 1 from rfl)) $$ Hst
  unfold SparseCore.Cfg.tcSt
  icases Hst' with ⟨⟨%Wd, %hWd, HO⟩, Hpos⟩
  rw [(K (F := F)).Otc_end d (le_refl 1)]
  ihave Hlv := ((K (F := F)).ctx_levAts κ) $$ Hctx
  iapply (mlp_call (F := F) (V3 m) bnd d)
  isplitl [Hts Hpos]
  · iintro ⟨Hb, Hub, HO⟩
    imodintro
    isplitl [HO Hpos]
    · isplitl [HO]; · iexact HO
      iexact Hpos
    isplitl [Hub]; · iexact Hub
    isplitl [Hb] <;> iassumption
  isplitl [Hb]; · iexact Hb
  isplitl [Hub HO]
  · isplitl [Hub]; · iexact Hub
    iexists Wd; isplitr; · ipureintro; exact hWd
    iexact HO
  isplitl [Hlv]; · iexact Hlv
  iexact HG

/-! ## The launch -/

/-- The ghost state at launch: the handshakes' rounds, the pipeline's cells. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- A conjunction of trivial facts is trivial. -/
theorem emps {I : Type} (s : Finset I) : (bigSep s fun _ => iprop(emp)) = (iprop(emp) : sProp 𝕄) := bigSep_emp_const s
/-- There is one SparseCore call. -/
theorem only_one (Φ : Dev nD → Fin 1 → sProp 𝕄) :
    (bigSep Finset.univ fun d : Dev nD => bigSep Finset.univ fun p : Fin 1 => Φ d p) = bigSep Finset.univ fun d : Dev nD => Φ d 0 :=
  bigSep_congr fun d _ => bigSep_univ_of_subsingleton (0 : Fin 1)

/-- The launch's ghost state splits into what the handshakes, the TensorCore call and the tiles start with. -/
theorem hu₀ : (ownU (u₀ (F := F)) : sProp 𝕄)
    ⊢ |={Set.univ}=> iprop(BI.own (EH (initOf (K (F := F)).hsCells (K (F := F)).hsToks)) ∗ (bigSep Finset.univ fun d : Dev nD => PG (F := F) d)
        ∗ bigSep Finset.univ fun thr : Thread nD τ => bigSep Finset.univ fun q : Fin 1 => (P (F := F) (Vh m)).x q thr) := by
  unfold u₀
  have hf := Pipeline.fund_ghost (Val := Elt F) (Ix := HIx 1) (Name := ℕ) (U := UU) (Lvl := ℕ) (Pipeline.pin (pcfgs (F := F)) adm) EP phinj
  iintro Hu
  ihave H := (ownU_pair _ _) $$ Hu
  icases H with ⟨HH, Hr⟩
  ihave H := (own_pair_emb _ _ _) $$ Hr
  icases H with ⟨Hp, -⟩
  imod hf $$ Hp with ⟨Hc, Ht⟩
  imodintro
  isplitl [HH]; · iexact HH
  isplitl
  · rw [bigSep_sep']
    isplitl [Hc]
    · iapply (Entails.of_eq (only_one (F := F) (fun d p => Pipeline.cellsGhost (Pipeline.pin (pcfgs (F := F)) adm) EP p d))); iexact Hc
    · iapply (Entails.of_eq (only_one (F := F) (fun d p => Pipeline.toksInit (Pipeline.pin (pcfgs (F := F)) adm) EP p d))); iexact Ht
  rw [show (bigSep Finset.univ fun thr : Thread nD τ => bigSep Finset.univ fun q : Fin 1 => (P (F := F) (Vh m)).x q thr) = bigSep Finset.univ fun _ => iprop(emp) from
    bigSep_congr fun _ _ => bigSep_univ_of_subsingleton (0 : Fin 1), emps]
  iempintro

/-- What a run ends with: every unscoped array at the end's contents. -/
def fq (d : Dev nD) (s' : Phys nD τ sig (Elt F)) : Prop :=
  ∀ r : Ref sig .tc, ¬ r.isScoped → s'.mem.mem ((SparseCore.T d).loc r) = Vf m d (rf r)

/-- What is held at the end says what the memory holds. -/
theorem hfin (d : Dev nD) (s' : Phys nD τ sig (Elt F)) : iprop(FIN m d ∗ SI s') ⊢ (⌜fq m d s'⌝ : sProp 𝕄) := by
  have one : ∀ r : Ref sig .tc, ¬ r.isScoped → iprop(FIN m d ∗ SI s') ⊢ (⌜s'.mem.mem ((SparseCore.T d).loc r) = Vf m d (rf r)⌝ : sProp 𝕄) := by
    intro r hr
    unfold FIN unscopedBufs
    rw [SparseCore.bigSep_erase' (i := r) (Finset.mem_filter.mpr ⟨Finset.mem_univ _, hr⟩)]
    iintro ⟨⟨H, -⟩, HSI⟩
    ihave H := (SI_pointsTo_agree (st := s') (ℓ := (SparseCore.T d).loc r) (I := Finset.univ) (q := fullShare) (f := Vf m d (rf r))) $$ [HSI H]
    · isplitl [HSI] <;> iassumption
    icases H with %h
    ipureintro
    exact funext fun i => h i (Finset.mem_univ i)
  have hall : iprop(FIN m d ∗ SI s') ⊢ (iprop(∀ r : {r : Ref sig .tc // ¬ r.isScoped}, ⌜s'.mem.mem ((SparseCore.T d).loc r.1) = Vf m d (rf r.1)⌝) : sProp 𝕄) :=
    forall_intro fun r => one r.1 r.2
  refine hall.trans (pure_forall.2.trans (BI.Laws.pure_mono fun h r hr => h ⟨r, hr⟩))

/-- A run of the kernel's program, the indices in range when the SparseCore call is made: every semaphore ends at zero, every
    unscoped array at the end's contents. -/
theorem run_main [∀ e, Nonempty (Elt F e)] (hok : InTable (Vh m)) :
    θ_run (Cert.KernelIdeal.defs (F := F)) (Cert.KernelIdeal.threads (F := F)) ⟨m, fun _ => 0, ρ⟩
      (fun r => (∀ (c : Dev nD) (b : Ref sig .tc), ¬ b.isScoped → r.2.mem ((SparseCore.T c).loc b) = Vf m c (rf b)) ∧ r.2.sem = fun _ => 0) :=
  SparseCore.Cfg.θ_run_sc_quiescent (K := K (F := F)) (D := D (F := F)) (𝒱 := 𝒱) (EH := EH) (P := P (Vh m)) (A := ∅) facts v₀
    (fun q hq => match q with | 0 => nomatch hq)
    (fun q _ => match q with | 0 => tileObl (Vh m) hok)
    (fun q _ => match q with | 0 => SparseCore.Cfg.VecSplit.of_plain (vecSplit (Vh m)))
    m ρ main (fun d => PG (F := F) d) (FIN m) (u₀ (F := F)) (sep_elim_left.trans (hu₀ m)) (hmain m ρ) (fq m) (hfin m) _ (fun _ h hz => ⟨h, hz⟩)

end Cert.Proof.PoolI

end
-- ==== Proof.FrameI.lean ====
/- What the run leaves in the argument arrays (what was there), and the index lists the SparseCore call is given: the row of
   indices in two halves, eight zeros at the end of the second. -/
module

public import proofs.«01_k».proof.Proof.LaunchI
public import proofs.«01_k».proof.Proof.Pre
public import Idealize.ShloMosaic.Lib.KernelVsHost
public import Idealize.ShloMosaic.Lib.StableHlo.RunHlo

@[expose] public section

set_option maxRecDepth 16384

noncomputable section

namespace Cert.Proof.PoolI

open Cert.KernelIdeal Cert.KernelIdeal.Gen

open Idealize.ShloMosaic Idealize.ShloMosaic.StableHlo Idealize.ShloMosaic.TcCoe
open Idealize.SL.Sem

variable {F : FTy → Type} [FloatOps F]
variable (m : (ℓ : Loc nD τ sig) → Buf (Elt F) ℓ) (ρ : Dev nD → PrngReg)

/-- The arrays the program writes. -/
abbrev written : List (Ref sig .tc) :=
  [main_c, main_call0_v0, main_v0, main_v1, main_v2, main_v3, main_v4, main_v5, main_v6, main_v7]

/-- An array the host's index operations do not write holds, when the SparseCore call is made, what it held. -/
theorem Vh_keeps (d : Dev nD) (r : Ref sig .tc) (h : r ∉ written) : Vh m d (rf r) = m (d, rf r) := by
  simp only [written, List.mem_cons, List.not_mem_nil, or_false, not_or] at h
  obtain ⟨h0, h1, h2, h3, h4, h5, h6, h7, h8, h9⟩ := h
  rw [Vh, reshape_result_ne (h := h3), binary_result_ne (h := h2), unary_result_ne (h := h1), nullary_result_ne (h := h0)]
  rfl

/-- An array the SparseCore call and the bias reshapes do not write holds, when the TensorCore call is made, what it held
    when the SparseCore call was. -/
theorem V3_keeps (d : Dev nD) (r : Ref sig .tc) (h : r ∉ written) : V3 m d (rf r) = m (d, rf r) := by
  have h' := h
  simp only [written, List.mem_cons, List.not_mem_nil, or_false, not_or] at h
  obtain ⟨h0, h1, h2, h3, h4, h5, h6, h7, h8, h9⟩ := h
  rw [V3, reshape_result_ne (h := h8), reshape_result_ne (h := h7), reshape_result_ne (h := h6), reshape_result_ne (h := h5),
    V2, Function.update_of_ne (fun e => h4 (Proc.devRef_injective _ e)), Vh_keeps m d r h']

/-- An array the program does not write holds at the end what it held at the start. -/
theorem Vf_keeps (d : Dev nD) (r : Ref sig .tc) (h : r ∉ written) : Vf m d (rf r) = m (d, rf r) := by
  have h' := h
  simp only [written, List.mem_cons, List.not_mem_nil, or_false, not_or] at h
  obtain ⟨h0, h1, h2, h3, h4, h5, h6, h7, h8, h9⟩ := h
  rw [Vf, Wp_ne _ _ d r h9, V3_keeps m d r h']

/-- The padded rows of indices. -/
def padded (d : Dev nD) : S4096x208.Idx → BitVec 32 :=
  pad S4096x208 ![0, 0] ![0, 8] ![0, 0] (m (d, rf main_arg0) : S4096x200.Idx → BitVec 32) (constantI S_ 32 0#32)
    pads_S4096x200_S4096x208_000_080 h_S_

/-- The lists the SparseCore call is given are the padded rows, cut in two. -/
theorem ids_eq (d : Dev nD) : ids (Vh m) d = shapeCast S4096x2x104 (padded m d) shapeCasts_S4096x208_S4096x2x104 := by
  show Vh m d (rf main_v1) = _
  rw [Vh, reshape_result]
  show shapeCast _ _ _ = _
  refine congrArg (fun x => shapeCast S4096x2x104 x shapeCasts_S4096x208_S4096x2x104) ?_
  show (opPad.result (opCopy.result (opZero.result (V0 m d)))) (rf main_v0) = _
  erw [binary_result]
  show pad S4096x208 ![0, 0] ![0, 8] ![0, 0] (opCopy.result (opZero.result (V0 m d)) (rf main_arg0) : S4096x200.Idx → BitVec 32)
      (opCopy.result (opZero.result (V0 m d)) (rf main_call0_v0) : S_.Idx → BitVec 32)
      pads_S4096x200_S4096x208_000_080 h_S_ = _
  erw [unary_result_ne (h := show main_arg0 ≠ main_call0_v0 by decide), nullary_result_ne (h := show main_arg0 ≠ main_c by decide),
    unary_result, nullary_result]
  rfl

/-- Index `r` of half `h` of list `b`: index `104 h + r` of row `b`, or 0 past the row's end. -/
theorem ids_inside (d : Dev nD) (x : S4096x2x104.Idx) (k : S4096x200.Idx) (h0 : (k 0).val = (x 0).val)
    (h1 : (k 1).val = (x 1).val * 104 + (x 2).val) : ids (Vh m) d x = (m (d, rf main_arg0) : S4096x200.Idx → BitVec 32) k := by
  have hx1 : (x 1).val < 2 := (x 1).isLt
  have hx2 : (x 2).val < 104 := (x 2).isLt
  have e : shapeCast S4096x2x104 (padded m d) shapeCasts_S4096x208_S4096x2x104 x
      = padded m d (Fold.at2 (x 0).val ((x 1).val * 104 + (x 2).val)) := by
    refine shapeCast_apply _ _ _ _ ?_
    rw [Shape.rowMajor_val_two, Shape.rowMajor_val_three]
    have a0 : (x 0).val % 4096 = (x 0).val := Nat.mod_eq_of_lt (x 0).isLt
    have a1 : ((x 1).val * 104 + (x 2).val) % 208 = (x 1).val * 104 + (x 2).val := Nat.mod_eq_of_lt (by omega)
    show (x 0).val % 4096 * 208 + ((x 1).val * 104 + (x 2).val) % 208 = ((x 0).val * 2 + (x 1).val) * 104 + (x 2).val
    omega
  rw [ids_eq, e, padded]
  refine pad_apply_of_inside _ _ _ _ _ _ _ _ k fun a => ?_
  match a with
  | 0 =>
    show (x 0).val % 4096 = 0 + (k 0).val * 1
    have a0 : (x 0).val % 4096 = (x 0).val := Nat.mod_eq_of_lt (x 0).isLt
    omega
  | 1 =>
    show ((x 1).val * 104 + (x 2).val) % 208 = 0 + (k 1).val * 1
    rw [h1, Nat.mod_eq_of_lt (by omega)]; omega

/-- Beyond a list's 200 tokens the padded lists hold zeros. -/
theorem ids_outside (d : Dev nD) (x : S4096x2x104.Idx) (h : 200 ≤ (x 1).val * 104 + (x 2).val) : ids (Vh m) d x = 0#32 := by
  have hx1 : (x 1).val < 2 := (x 1).isLt
  have hx2 : (x 2).val < 104 := (x 2).isLt
  have e : shapeCast S4096x2x104 (padded m d) shapeCasts_S4096x208_S4096x2x104 x
      = padded m d (Fold.at2 (x 0).val ((x 1).val * 104 + (x 2).val)) := by
    refine shapeCast_apply _ _ _ _ ?_
    rw [Shape.rowMajor_val_two, Shape.rowMajor_val_three]
    have a0 : (x 0).val % 4096 = (x 0).val := Nat.mod_eq_of_lt (x 0).isLt
    have a1 : ((x 1).val * 104 + (x 2).val) % 208 = (x 1).val * 104 + (x 2).val := Nat.mod_eq_of_lt (by omega)
    show (x 0).val % 4096 * 208 + ((x 1).val * 104 + (x 2).val) % 208 = ((x 0).val * 2 + (x 1).val) * 104 + (x 2).val
    omega
  rw [ids_eq, e, padded]
  refine pad_apply_of_not_inside _ _ _ _ _ _ _ _ 1 fun hin => ?_
  have h2 : (((x 1).val * 104 + (x 2).val) % 208 - 0) / (0 + 1) < 200 := hin.2.2
  rw [Nat.mod_eq_of_lt (show (x 1).val * 104 + (x 2).val < 208 by omega)] at h2
  omega

/-- When every index of the argument lies in the table, so does every index of the lists. -/
theorem inTable (h : ∀ (d : Dev nD) (k : S4096x200.Idx), ((m (d, rf main_arg0) : S4096x200.Idx → BitVec 32) k).toNat < 100000) :
    InTable (Vh m) := by
  intro d x
  by_cases hx : (x 1).val * 104 + (x 2).val < 200
  · rw [ids_inside m d x (fun | 0 => x 0 | 1 => ⟨_, hx⟩) rfl rfl]
    exact h d _
  · rw [ids_outside m d x (by omega)]
    decide

/-- The program runs; the arrays it does not write, among them its arguments, end as they were; every counter ends at 0. -/
theorem run_frame [∀ e, Nonempty (Elt F e)]
    (h : ∀ (d : Dev nD) (k : S4096x200.Idx), ((m (d, rf main_arg0) : S4096x200.Idx → BitVec 32) k).toNat < 100000) :
    θ_run (Cert.KernelIdeal.defs (F := F)) (Cert.KernelIdeal.threads (F := F)) ⟨m, fun _ => 0, ρ⟩ (fun r =>
      (∀ (c : Dev nD), r.2.mem ((c.tc : Thread nD τ).loc main_v7) = Vf m c (rf main_v7)
        ∧ ∀ (b : Ref sig .tc), ¬ b.isScoped → b ∉ written → r.2.mem ((c.tc : Thread nD τ).loc b) = m ((c.tc : Thread nD τ).loc b))
      ∧ r.2.sem = fun _ => 0) := by
  refine θ_run_mono (run_main m ρ (inTable m h)) ?_
  rintro r ⟨h1, h2⟩
  exact ⟨fun c => ⟨h1 c main_v7 (by decide), fun b hb hw => (h1 c b hb).trans (Vf_keeps m c b hw)⟩, h2⟩

end Cert.Proof.PoolI

end
-- ==== Proof.Padded.lean ====
/- What the precondition of the value claim says, index by index: every index lies in the table, row 0 of the table is zero,
   and every list of indices has one that is not 0. -/
module

public import proofs.«01_k».proof.Proof.Gen.Pre_padded_ids
public import proofs.«01_k».proof.Proof.Pre
public import Idealize.ShloMosaic.Lib.ReduceAll
public import Idealize.ShloMosaic.Lib.ValueIdxCore
public import Idealize.ShloMosaic.Lib.Pipeline.Value
public import Idealize.ShloMosaic.PureOps.Ideal
public import Idealize.ShloMosaic.PureOps.Ideal.Laws
public import Idealize.ShloMosaic.PureOps.IdealRules

@[expose] public section

noncomputable section

namespace Cert.Given

open Idealize.ShloMosaic

variable {F : FTy → Type} [FloatOps F]

/-- The second precondition: every index lies in the table, -/
theorem range_of_padded (a0 a1 a2 a3 a4 a5 a6 a7 a8 a9)
    (h : Cert.Pre_padded_ids.fn (F := F) a0 a1 a2 a3 a4 a5 a6 a7 a8 a9 = fun _ => 1#1) (i) : (a0 i).toNat < 100000 :=
  toNat_lt_of_range (Host.reduce_andi_all _ _ _ _ (fun k => k.elim0)
    (IntOp.andi_eq_one.1 (IntOp.andi_eq_one.1 (congrFun h fun k => k.elim0)).1).1 i)

/-- row 0 of the table is zero, -/
theorem row_zero_of_padded (a0 a1 a2 a3 a4 a5 a6 a7 a8 a9)
    (h : Cert.Pre_padded_ids.fn (F := Ideal) a0 a1 a2 a3 a4 a5 a6 a7 a8 a9 = fun _ => 1#1) (y : Cert.Pre_padded_ids.S100000x128.Idx)
    (hy : (y 0).val = 0) : a1 y = (0 : EReal) := by
  have h1 := (IntOp.andi_eq_one.1 (IntOp.andi_eq_one.1 (congrFun h fun k => k.elim0)).1).2
  have h2 := Host.reduce_andi_all _ _ _ _ (fun k => k.elim0) h1 (fun | 0 => y 1)
  have e : extractStridedSlice Cert.Pre_padded_ids.S1x128 ![0, 0] a1 Cert.Pre_padded_ids.Gen.slices_S100000x128_S1x128_0_0
      (fun | 0 => ⟨0, Nat.one_pos⟩ | 1 => y 1) = a1 y := by
    refine congrArg a1 (funext fun k => Fin.ext ?_)
    match k with
    | 0 => exact hy.symm
    | 1 => exact Nat.zero_add _
  have hs : shapeCast Cert.Pre_padded_ids.S128 (extractStridedSlice Cert.Pre_padded_ids.S1x128 ![0, 0] a1
      Cert.Pre_padded_ids.Gen.slices_S100000x128_S1x128_0_0) Cert.Pre_padded_ids.Gen.shapeCasts_S1x128_S128 (fun | 0 => y 1) = a1 y := by
    refine (shapeCast_apply (s := Cert.Pre_padded_ids.S1x128) _ _ _ (fun | 0 => ⟨0, Nat.one_pos⟩ | 1 => y 1) ?_).trans e
    rw [Shape.rowMajor_val_two, Shape.rowMajor_val_one]
    show 0 * 128 + (y 1).val = (y 1).val
    omega
  have h3 : Ideal.cmp .oeq (shapeCast Cert.Pre_padded_ids.S128 (extractStridedSlice Cert.Pre_padded_ids.S1x128 ![0, 0] a1
      Cert.Pre_padded_ids.Gen.slices_S100000x128_S1x128_0_0) Cert.Pre_padded_ids.Gen.shapeCasts_S1x128_S128 (fun | 0 => y 1))
      (Ideal.ofBits .f32 0x00000000#32) = 1#1 := h2
  rw [hs, Ideal.ofBits_zero_f32] at h3
  by_contra hne
  rw [Ideal.cmp] at h3
  simp [hne] at h3

/-- A left fold by `or` over `i1` words that started at 0 and came out 1 met a 1. -/
theorem exists_of_foldl_ori {ι : Type} (f : ι → BitVec 1) :
    ∀ (l : List ι) (z : BitVec 1), z = 0#1 → l.foldl (fun r n => IntOp.ori r (f n)) z = 1#1 → ∃ n ∈ l, f n = 1#1
  | [], z, hz, h => absurd (hz.symm.trans h) (by decide)
  | a :: l, z, hz, h => by
    by_cases ha : f a = 1#1
    · exact ⟨a, List.mem_cons_self .., ha⟩
    · have hz' : IntOp.ori z (f a) = 0#1 := by
        by_contra hne
        have : ∀ w : BitVec 1, w ≠ 0#1 → w = 1#1 := by decide
        rcases IntOp.ori_eq_one.1 (this _ hne) with h | h
        · exact absurd (hz.symm.trans h) (by decide)
        · exact ha h
      obtain ⟨n, hn, e⟩ := exists_of_foldl_ori f l _ hz' h
      exact ⟨n, List.mem_cons_of_mem _ hn, e⟩

/-- and every list has an index that is not 0. -/
theorem nonempty_of_padded (a0 a1 a2 a3 a4 a5 a6 a7 a8 a9)
    (h : Cert.Pre_padded_ids.fn (F := F) a0 a1 a2 a3 a4 a5 a6 a7 a8 a9 = fun _ => 1#1) (b : Cert.Pre_padded_ids.S4096.Idx) :
    ∃ i : Cert.Pre_padded_ids.S4096x200.Idx, (i 0).val = (b 0).val ∧ a0 i ≠ 0#32 := by
  have h1 := (IntOp.andi_eq_one.1 (congrFun h fun k => k.elim0)).2
  have h2 := Host.reduce_andi_all _ _ _ _ (fun k => k.elim0) h1 b
  beta_reduce at h2
  rw [Host.reduce_eq_foldl] at h2
  obtain ⟨i, hi, hx⟩ := exists_of_foldl_ori _ _ _ (by rfl) h2
  rw [List.mem_filter] at hi
  refine ⟨i, ?_, IntOp.cmpi_ne.1 hx⟩
  have := of_decide_eq_true hi.2
  rw [← this]
  rfl

end Cert.Given

end
-- ==== Proof.Net.lean ====
/- The function that both programs compute, for one sample, over the extended reals: a pooled row divided by the square root
   of the number of its tokens, through three layers with a rectifier and a last layer without one. -/
module

public import proofs.«01_k».proof.Proof.Fold
public import Idealize.ShloMosaic.Lib.Pointwise

@[expose] public section

noncomputable section

namespace Cert.Net

open Idealize.ShloMosaic

/-- One dense layer: a row times a matrix, plus a bias. -/
def dense {n k : ℕ} (x : Fin n → EReal) (w : Fin n → Fin k → EReal) (b : Fin k → EReal) (j : Fin k) : EReal :=
  (∑ q, x q * w q j) + b j

/-- The rectifier, entry by entry. -/
def relu {n : ℕ} (x : Fin n → EReal) (j : Fin n) : EReal := max (x j) 0

/-- A matrix by its row and its column. -/
def mat {n k : ℕ} (M : (⟨2, ![n, k]⟩ : Shape).Idx → EReal) (q : Fin n) (j : Fin k) : EReal := M (ix2 q j)

/-- A vector by its position. -/
def vec {n : ℕ} (v : (⟨1, ![n]⟩ : Shape).Idx → EReal) (j : Fin n) : EReal := v (ix1 j)

/-- The four layers applied to one row. -/
def net (h : Fin 128 → EReal) (w0 : Fin 128 → Fin 2048 → EReal) (b0 : Fin 2048 → EReal) (w1 : Fin 2048 → Fin 1024 → EReal)
    (b1 : Fin 1024 → EReal) (w2 : Fin 1024 → Fin 2048 → EReal) (b2 : Fin 2048 → EReal) (wo : Fin 2048 → Fin 128 → EReal)
    (bo : Fin 128 → EReal) : Fin 128 → EReal :=
  dense (relu (dense (relu (dense (relu (dense h w0 b0)) w1 b1)) w2 b2)) wo bo

/-- How many of the 200 places of a sample hold a token other than number zero. -/
def filled (f : Fin 200 → BitVec 32) : ℕ := (Finset.univ.filter fun r => f r ≠ 0#32).card

/-- A list with a token that is not zero counts at least one. -/
theorem one_le_filled (f : Fin 200 → BitVec 32) (r : Fin 200) (h : f r ≠ 0#32) : 1 ≤ filled f :=
  Finset.card_pos.2 ⟨r, Finset.mem_filter.2 ⟨Finset.mem_univ r, h⟩⟩

/-- One sample's result: the sum of the table's rows that its 200 tokens name, divided by the power one half of the number of
    tokens that are not zero, through the four layers. -/
def sample (ids : IVec ⟨2, ![4096, 200]⟩ 32) (tab : (⟨2, ![100000, 128]⟩ : Shape).Idx → EReal)
    (w0 : (⟨2, ![128, 2048]⟩ : Shape).Idx → EReal) (b0 : (⟨1, ![2048]⟩ : Shape).Idx → EReal)
    (w1 : (⟨2, ![2048, 1024]⟩ : Shape).Idx → EReal) (b1 : (⟨1, ![1024]⟩ : Shape).Idx → EReal)
    (w2 : (⟨2, ![1024, 2048]⟩ : Shape).Idx → EReal) (b2 : (⟨1, ![2048]⟩ : Shape).Idx → EReal)
    (wo : (⟨2, ![2048, 128]⟩ : Shape).Idx → EReal) (bo : (⟨1, ![128]⟩ : Shape).Idx → EReal) (i : Fin 4096) : Fin 128 → EReal :=
  net (fun x => Ideal.div (∑ r : Fin 200, tab (Fold.at2 (ids (ix2 i r)).toNat x.val))
      (Ideal.pow ((filled (fun r => ids (ix2 i r)) : ℕ) : EReal) (Ideal.ofBits .f32 0x3F000000#32)))
    (mat w0) (vec b0) (mat w1) (vec b1) (mat w2) (vec b2) (mat wo) (vec bo)

/-- The comparison of a token with zero, as a real number: one for another token, zero for this one. -/
theorem indicator (w : BitVec 32) : FloatOps.sitofp (F := Ideal) FTy.f32 (BitVec.setWidth 32 (IntOp.cmpi CmpIPredicate.ne w 0#32))
    = ((if w ≠ 0#32 then (1 : ℕ) else 0 : ℕ) : EReal) := by
  show ((((BitVec.setWidth 32 (IntOp.cmpi CmpIPredicate.ne w 0#32)).toInt : ℤ) : ℝ) : EReal) = _
  by_cases h : w = 0#32
  · subst h
    rw [if_neg (by simp)]
    have : (BitVec.setWidth 32 (IntOp.cmpi CmpIPredicate.ne 0#32 0#32)).toInt = 0 := by decide
    rw [this]; simp
  · rw [if_pos h]
    have h1 : IntOp.cmpi CmpIPredicate.ne w 0#32 = 1#1 := by
      have hb : (w != 0#32) = true := by simpa using h
      show BitVec.ofBool (w != 0#32) = 1#1
      rw [hb]; rfl
    rw [h1]
    have : (BitVec.setWidth 32 1#1).toInt = 1 := by decide
    rw [this]; simp

/-- The sum of these comparisons is the number of tokens. -/
theorem sum_indicator (f : Fin 200 → BitVec 32) :
    (∑ r : Fin 200, FloatOps.sitofp (F := Ideal) FTy.f32 (BitVec.setWidth 32 (IntOp.cmpi CmpIPredicate.ne (f r) 0#32)) : EReal)
      = ((filled f : ℕ) : EReal) := by
  simp only [indicator]
  unfold filled
  rw [Finset.card_filter]
  push_cast
  rfl

/-- For at least one token, multiplying by the reciprocal square root of their number is dividing by its power one half. -/
theorem scaled (x : EReal) (n : ℕ) (h : 1 ≤ n) :
    x * Ideal.rsqrt ((n : ℕ) : EReal) = Ideal.div x (Ideal.pow ((n : ℕ) : EReal) (Ideal.ofBits .f32 0x3F000000#32)) := by
  have half : Ideal.ofBits .f32 0x3F000000#32 = (((1 / 2 : ℝ)) : EReal) := by
    simp [Ideal.ofBits, Ideal.ieee, -EReal.coe_mul]; norm_num
  have e : ((n : ℕ) : EReal) = (((n : ℝ)) : EReal) := by simp
  have pos : (0 : ℝ) < n := by exact_mod_cast h
  rw [half, e]
  show x * (if (n : ℝ) < 0 then (⊥ : EReal) else if (n : ℝ) = 0 then ⊤ else (((Real.sqrt n)⁻¹ : ℝ) : EReal))
    = Ideal.div x ((Real.rpow n (1 / 2) : ℝ) : EReal)
  rw [if_neg (not_lt.2 pos.le), if_neg pos.ne']
  have hs : Real.rpow n (1 / 2) = Real.sqrt n := (Real.sqrt_eq_rpow _).symm
  rw [hs]
  unfold Ideal.div
  have h0 : ((Real.sqrt n : ℝ) : EReal) ≠ 0 := by
    simpa using (Real.sqrt_pos.2 pos).ne'
  rw [if_neg h0, EReal.coe_inv]

end Cert.Net

end
-- ==== Proof.ValueI.lean ====
/- What the TensorCore call leaves in its result, entry by entry, over the extended reals: each row is the four layers applied
   to the same row of the pooled array, scaled by the number of that row's tokens. -/
module

public import proofs.«01_k».proof.Proof.MlpI
public import proofs.«01_k».proof.Proof.Net
public import Idealize.ShloMosaic.Lib.Pipeline.Value

@[expose] public section

set_option maxRecDepth 16384

noncomputable section

namespace Cert.Proof.PoolI

open Cert.KernelIdeal Cert.KernelIdeal.Gen Cert.Net
open Idealize.ShloMosaic Idealize.ShloMosaic.TcCoe
open Idealize.ShloMosaic.Pipeline (Dat Cfg Window)

/-- One entry of what the body stores: the four layers applied to a row of the pooled block, scaled by its number of tokens. -/
theorem payload_apply (v0 : Vec Ideal S512x200 .i32) (v7 : Vec Ideal S512x128 .f32) (v11 : Vec Ideal S128x2048 .f32)
    (v13 : Vec Ideal S1x2048 .f32) (v19 : Vec Ideal S2048x1024 .f32) (v21 : Vec Ideal S1x1024 .f32) (v27 : Vec Ideal S1024x2048 .f32)
    (v29 : Vec Ideal S1x2048 .f32) (v35 : Vec Ideal S2048x128 .f32) (v37 : Vec Ideal S1x128 .f32) (i : Fin 512) (j : Fin 128) :
    k1_pay1 (k1_pay2 v0 v7 v11 v13 v19 v21 v27 v29) v35 v37 (ix2 i j)
      = net (fun x => v7 (ix2 i x) * Ideal.rsqrt ((filled (fun r => v0 (ix2 i r)) : ℕ) : EReal))
          (mat v11) (mat v13 0) (mat v19) (mat v21 0) (mat v27) (mat v29 0) (mat v35) (mat v37 0) j := by
  pointwise [k1_pay1, k1_pay2]
  simp only [net, dense, relu, mat, ← sum_indicator]

/-- The offsets at the start of a block. -/
theorem origin : (![0, 0] : Fin 2 → ℕ) = fun _ => 0 := funext fun a => by fin_cases a <;> rfl

/-- The same of what the body leaves in its result's buffer. -/
theorem out1_10_apply (x0 : Vec Ideal S512x200 .i32) (x1 : Vec Ideal S512x128 .f32) (x2 : Vec Ideal S128x2048 .f32)
    (x3 : Vec Ideal S1x2048 .f32) (x4 : Vec Ideal S2048x1024 .f32) (x5 : Vec Ideal S1x1024 .f32) (x6 : Vec Ideal S1024x2048 .f32)
    (x7 : Vec Ideal S1x2048 .f32) (x8 : Vec Ideal S2048x128 .f32) (x9 : Vec Ideal S1x128 .f32) (i : Fin 512) (j : Fin 128) :
    out1_10 x0 x1 x2 x3 x4 x5 x6 x7 x8 x9 (ix2 i j)
      = net (fun x => x1 (ix2 i x) * Ideal.rsqrt ((filled (fun r => x0 (ix2 i r)) : ℕ) : EReal))
          (mat x2) (mat x3 0) (mat x4) (mat x5 0) (mat x6) (mat x7 0) (mat x8) (mat x9 0) j := by
  unfold out1_10
  rw [View.canon_unit_zero origin, View.ld_unit_zero origin, View.ld_unit_zero origin, View.ld_unit_zero origin,
    View.ld_unit_zero origin, View.ld_unit_zero origin, View.ld_unit_zero origin, View.ld_unit_zero origin,
    View.ld_unit_zero origin, View.ld_unit_zero origin, View.ld_unit_zero origin]
  exact payload_apply x0 x1 x2 x3 x4 x5 x6 x7 x8 x9 i j

variable (W : Dev nD → Valuation τ sig (Elt Ideal)) (b : ℕ)

/-- The grid has eight points. -/
theorem points : cfg1.N = 8 := by decide

/-- The block of the token numbers at a point: rows `512 t` and on. -/
theorem block_tokens (c : Dev nD) (t : Fin cfg1.N) (i : Fin 512) (r : Fin 200) (k : Fin 4096) (hk : k.val = 512 * t.val + i.val) :
    iblk W c 0 t (ix2 i r) = W c (Proc.devRef .tc main_arg0) (ix2 k r) := by
  show W c (Proc.devRef .tc main_arg0) ((win1_0.rect t).emb (ix2 i r)) = _
  refine congrArg (W c (Proc.devRef .tc main_arg0)) (funext fun a => Fin.ext ?_)
  have e : ∀ t : Fin cfg1.N, win1_0.index t 0 = t.val ∧ win1_0.index t 1 = 0 := by decide +kernel
  match a with
  | ⟨0, _⟩ =>
    refine (Window.rect_emb_val win1_0 t (ix2 i r) 0).trans ?_
    rw [(e t).1]
    show t.val * 512 + i.val = k.val
    omega
  | ⟨1, _⟩ =>
    refine (Window.rect_emb_val win1_0 t (ix2 i r) 1).trans ?_
    rw [(e t).2]
    show 0 * 200 + r.val = r.val
    omega

/-- The block of the pooled rows at a point: rows `512 t` and on. -/
theorem block_pooled (c : Dev nD) (t : Fin cfg1.N) (i : Fin 512) (x : Fin 128) (k : Fin 4096) (hk : k.val = 512 * t.val + i.val) :
    iblk W c 1 t (ix2 i x) = W c (Proc.devRef .tc main_v2) (ix2 k x) := by
  show W c (Proc.devRef .tc main_v2) ((win1_1.rect t).emb (ix2 i x)) = _
  refine congrArg (W c (Proc.devRef .tc main_v2)) (funext fun a => Fin.ext ?_)
  have e : ∀ t : Fin cfg1.N, win1_1.index t 0 = t.val ∧ win1_1.index t 1 = 0 := by decide +kernel
  match a with
  | ⟨0, _⟩ =>
    refine (Window.rect_emb_val win1_1 t (ix2 i x) 0).trans ?_
    rw [(e t).1]
    show t.val * 512 + i.val = k.val
    omega
  | ⟨1, _⟩ =>
    refine (Window.rect_emb_val win1_1 t (ix2 i x) 1).trans ?_
    rw [(e t).2]
    show 0 * 128 + x.val = x.val
    omega

/-- Window 2's block is its whole array at every point. -/
theorem whole_2 (c : Dev nD) (t : Fin cfg1.N) : iblk W c 2 t = W c (Proc.devRef .tc main_arg2) := by
  funext y
  show W c (Proc.devRef .tc main_arg2) ((win1_2.rect t).emb y) = _
  exact congrArg (W c (Proc.devRef .tc main_arg2)) (funext fun a => Fin.ext
    (Window.rect_emb_val_of_index_zero win1_2 t a (by match a with | ⟨0, _⟩ => rfl | ⟨1, _⟩ => rfl) y))

/-- Window 3's block is its whole array at every point. -/
theorem whole_3 (c : Dev nD) (t : Fin cfg1.N) : iblk W c 3 t = W c (Proc.devRef .tc main_v3) := by
  funext y
  show W c (Proc.devRef .tc main_v3) ((win1_3.rect t).emb y) = _
  exact congrArg (W c (Proc.devRef .tc main_v3)) (funext fun a => Fin.ext
    (Window.rect_emb_val_of_index_zero win1_3 t a (by match a with | ⟨0, _⟩ => rfl | ⟨1, _⟩ => rfl) y))

/-- Window 4's block is its whole array at every point. -/
theorem whole_4 (c : Dev nD) (t : Fin cfg1.N) : iblk W c 4 t = W c (Proc.devRef .tc main_arg4) := by
  funext y
  show W c (Proc.devRef .tc main_arg4) ((win1_4.rect t).emb y) = _
  exact congrArg (W c (Proc.devRef .tc main_arg4)) (funext fun a => Fin.ext
    (Window.rect_emb_val_of_index_zero win1_4 t a (by match a with | ⟨0, _⟩ => rfl | ⟨1, _⟩ => rfl) y))

/-- Window 5's block is its whole array at every point. -/
theorem whole_5 (c : Dev nD) (t : Fin cfg1.N) : iblk W c 5 t = W c (Proc.devRef .tc main_v4) := by
  funext y
  show W c (Proc.devRef .tc main_v4) ((win1_5.rect t).emb y) = _
  exact congrArg (W c (Proc.devRef .tc main_v4)) (funext fun a => Fin.ext
    (Window.rect_emb_val_of_index_zero win1_5 t a (by match a with | ⟨0, _⟩ => rfl | ⟨1, _⟩ => rfl) y))

/-- Window 6's block is its whole array at every point. -/
theorem whole_6 (c : Dev nD) (t : Fin cfg1.N) : iblk W c 6 t = W c (Proc.devRef .tc main_arg6) := by
  funext y
  show W c (Proc.devRef .tc main_arg6) ((win1_6.rect t).emb y) = _
  exact congrArg (W c (Proc.devRef .tc main_arg6)) (funext fun a => Fin.ext
    (Window.rect_emb_val_of_index_zero win1_6 t a (by match a with | ⟨0, _⟩ => rfl | ⟨1, _⟩ => rfl) y))

/-- Window 7's block is its whole array at every point. -/
theorem whole_7 (c : Dev nD) (t : Fin cfg1.N) : iblk W c 7 t = W c (Proc.devRef .tc main_v5) := by
  funext y
  show W c (Proc.devRef .tc main_v5) ((win1_7.rect t).emb y) = _
  exact congrArg (W c (Proc.devRef .tc main_v5)) (funext fun a => Fin.ext
    (Window.rect_emb_val_of_index_zero win1_7 t a (by match a with | ⟨0, _⟩ => rfl | ⟨1, _⟩ => rfl) y))

/-- Window 8's block is its whole array at every point. -/
theorem whole_8 (c : Dev nD) (t : Fin cfg1.N) : iblk W c 8 t = W c (Proc.devRef .tc main_arg8) := by
  funext y
  show W c (Proc.devRef .tc main_arg8) ((win1_8.rect t).emb y) = _
  exact congrArg (W c (Proc.devRef .tc main_arg8)) (funext fun a => Fin.ext
    (Window.rect_emb_val_of_index_zero win1_8 t a (by match a with | ⟨0, _⟩ => rfl | ⟨1, _⟩ => rfl) y))

/-- Window 9's block is its whole array at every point. -/
theorem whole_9 (c : Dev nD) (t : Fin cfg1.N) : iblk W c 9 t = W c (Proc.devRef .tc main_v6) := by
  funext y
  show W c (Proc.devRef .tc main_v6) ((win1_9.rect t).emb y) = _
  exact congrArg (W c (Proc.devRef .tc main_v6)) (funext fun a => Fin.ext
    (Window.rect_emb_val_of_index_zero win1_9 t a (by match a with | ⟨0, _⟩ => rfl | ⟨1, _⟩ => rfl) y))

/-- The result of the call: every row the four layers applied to that row of the pooled array, scaled by its number of tokens. -/
def layers (ids : Vec Ideal S4096x200 .i32) (P : Vec Ideal S4096x128 .f32) (a2 : Vec Ideal S128x2048 .f32) (a3 : Vec Ideal S1x2048 .f32)
    (a4 : Vec Ideal S2048x1024 .f32) (a5 : Vec Ideal S1x1024 .f32) (a6 : Vec Ideal S1024x2048 .f32) (a7 : Vec Ideal S1x2048 .f32)
    (a8 : Vec Ideal S2048x128 .f32) (a9 : Vec Ideal S1x128 .f32) (i : Fin 4096) : Fin 128 → EReal :=
  net (fun x => P (ix2 i x) * Ideal.rsqrt ((filled (fun r => ids (ix2 i r)) : ℕ) : EReal))
    (mat a2) (mat a3 0) (mat a4) (mat a5 0) (mat a6) (mat a7 0) (mat a8) (mat a9 0)

/-- The same of the arrays at the call. -/
def layered (c : Dev nD) (i : Fin 4096) : Fin 128 → EReal :=
  layers (W c (Proc.devRef .tc main_arg0)) (W c (Proc.devRef .tc main_v2)) (W c (Proc.devRef .tc main_arg2))
    (W c (Proc.devRef .tc main_v3)) (W c (Proc.devRef .tc main_arg4)) (W c (Proc.devRef .tc main_v4))
    (W c (Proc.devRef .tc main_arg6)) (W c (Proc.devRef .tc main_v5)) (W c (Proc.devRef .tc main_arg8)) (W c (Proc.devRef .tc main_v6)) i

/-- The same as an array. -/
def layeredArr (c : Dev nD) : Buf (Elt Ideal) ((c : Thread nD τ).loc main_v7) := fun (z : S4096x128.Idx) => layered W c (z 0) (z 1)

/-- Step `t` writes the result's block number `t`. -/
theorem index_10 : ∀ t : Fin cfg1.N, win1_10.index t 0 = t.val ∧ win1_10.index t 1 = 0 := by decide +kernel

/-- An entry of what a point's body leaves is an entry of that array. -/
theorem left_apply (c : Dev nD) (t : Fin cfg1.N) (i : Fin 512) (j : Fin 128) (k : Fin 4096) (hk : k.val = 512 * t.val + i.val) :
    out1_10 (iblk W c 0 t) (iblk W c 1 t) (iblk W c 2 t) (iblk W c 3 t) (iblk W c 4 t) (iblk W c 5 t) (iblk W c 6 t) (iblk W c 7 t)
      (iblk W c 8 t) (iblk W c 9 t) (ix2 i j) = layered W c k j := by
  refine (out1_10_apply _ _ _ _ _ _ _ _ _ _ i j).trans ?_
  unfold layered layers
  have e0 : ∀ r, iblk W c 0 t (ix2 i r) = W c (Proc.devRef .tc main_arg0) (ix2 k r) := fun r => block_tokens W c t i r k hk
  have e1 : ∀ x, iblk W c 1 t (ix2 i x) = W c (Proc.devRef .tc main_v2) (ix2 k x) := fun x => block_pooled W c t i x k hk
  rw [whole_2, whole_3, whole_4, whole_5, whole_6, whole_7, whole_8, whole_9]
  refine congrArg (fun h => net h _ _ _ _ _ _ _ _ j) (funext fun x => ?_)
  refine congrArg₂ (· * ·) (e1 x) (congrArg (fun f => Ideal.rsqrt ((filled f : ℕ) : EReal)) (funext fun r => e0 r))

/-- Where an entry of a point's result block lies in the array. -/
theorem place_10 (t : Fin cfg1.N) (i : Fin 512) (j : Fin 128) (k : Fin 4096) (hk : k.val = 512 * t.val + i.val) :
    (win1_10.rect t).emb (ix2 i j) = ix2 k j := by
  refine funext fun a => Fin.ext ?_
  match a with
  | ⟨0, _⟩ =>
    refine (Window.rect_emb_val win1_10 t (ix2 i j) 0).trans ?_
    rw [(index_10 t).1]
    show t.val * 512 + i.val = k.val
    omega
  | ⟨1, _⟩ =>
    refine (Window.rect_emb_val win1_10 t (ix2 i j) 1).trans ?_
    rw [(index_10 t).2]
    show 0 * 128 + j.val = j.val
    omega

/-- What a point writes back is its block of that array. -/
theorem flushed_10 (c : Dev nD) (t : Fin cfg1.N) :
    (dats W b c).flushed 10 t = ((cfg1.win 10).blk t).view.read (Elt Ideal) (layeredArr W c) := by
  show (cfg1.win 10).cut (grid1.coords t) ((dats W b c).after 10 t) = _
  rw [after1_10]
  refine funext fun (y : S512x128.Idx) => ?_
  have ht : t.val < 8 := points ▸ t.isLt
  have hy : (y 0).val < 512 := (y 0).isLt
  have hk : 512 * t.val + (y 0).val < 4096 := by omega
  have e : (win1_10.rect t).emb y = ix2 (⟨512 * t.val + (y 0).val, hk⟩ : Fin 4096) (y 1) :=
    (congrArg (win1_10.rect t).emb (eq_ix2 y)).trans (place_10 t (y 0) (y 1) ⟨_, hk⟩ rfl)
  refine Eq.trans (b := layered W c ⟨512 * t.val + (y 0).val, hk⟩ (y 1)) ?_ (congrArg (layeredArr W c) e).symm
  refine Eq.trans ?_ (left_apply W c t (y 0) (y 1) ⟨_, hk⟩ rfl)
  exact congrArg (out1_10 _ _ _ _ _ _ _ _ _ _) (eq_ix2 y)

/-- Every entry of the result lies in the block of the point that its row belongs to. -/
theorem covered (z : S4096x128.Idx) : ∃ t : Fin cfg1.N, (cfg1.win 10).flush t = true ∧ z ∈ ((cfg1.win 10).blk t).view.set := by
  have h0 : (z 0).val < 4096 := (z 0).isLt
  have h1 : (z 1).val < 128 := (z 1).isLt
  have ht : (z 0).val / 512 < cfg1.N := by rw [points]; omega
  refine ⟨⟨(z 0).val / 512, ht⟩, flush1_10 _, ?_⟩
  show z ∈ ((View.whole main_v7).slice (win1_10.rect ⟨(z 0).val / 512, ht⟩)).set
  rw [View.set_slice_whole, Rect.mem_set_unit]
  have e := index_10 ⟨(z 0).val / 512, ht⟩
  intro a
  match a with
  | ⟨0, _⟩ =>
    show win1_10.index ⟨(z 0).val / 512, ht⟩ 0 * 512 ≤ (z 0).val ∧ (z 0).val < win1_10.index ⟨(z 0).val / 512, ht⟩ 0 * 512 + 512
    rw [e.1]
    show (z 0).val / 512 * 512 ≤ (z 0).val ∧ (z 0).val < (z 0).val / 512 * 512 + 512
    omega
  | ⟨1, _⟩ =>
    show win1_10.index ⟨(z 0).val / 512, ht⟩ 1 * 128 ≤ (z 1).val ∧ (z 1).val < win1_10.index ⟨(z 0).val / 512, ht⟩ 1 * 128 + 128
    rw [e.2]
    omega

/-- The call's result, entry by entry. -/
theorem mlpOut_apply (c : Dev nD) (i : Fin 4096) (j : Fin 128) : mlpOut W b c (ix2 i j) = layered W c i j := by
  have h : mlpOut W b c = layeredArr W c := by
    refine (dats W b c).arrAt_eq_of_cover 10 (layeredArr W c) (fun t _ => flushed_10 W b c t) fun z => ?_
    exact covered z
  rw [h]
  rfl

end Cert.Proof.PoolI

end
-- ==== Proof.Written.lean ====
/- What the reference leaves in its result, row by row: the four layers applied to the sum of the looked-up rows divided by
   the square root of the number of tokens. -/
module

public import proofs.«01_k».proof.Proof.Net
public import proofs.«01_k».proof.Proof.Gen.ReferenceIdeal.Run
public import Idealize.ShloMosaic.Lib.StableHlo.Predicate
public import Idealize.ShloMosaic.Lib.Routing.OpsOrder

@[expose] public section

set_option maxRecDepth 16384

noncomputable section

namespace Cert.Written

open Idealize.ShloMosaic Cert.ReferenceIdeal Cert.ReferenceIdeal.Facts₀ Cert.Net

variable [Cert.ReferenceIdeal.Facts]

/-- The token numbers as the reference looks them up: a negative one counts from the end of the table. -/
def places (ids : IVec S4096x200 32) : IVec S4096x200x1 32 :=
  broadcastInDim S4096x200x1 ![0, 1] bcast_S4096x200_S4096x200x1_0_1 (select (cmpi .slt ids (broadcastInDim S4096x200 ![] bcast_S_S4096x200 (constantI S_ 32 0#32))) (addi ids (broadcastInDim S4096x200 ![] bcast_S_S4096x200 (constantI S_ 32 100000#32))) ids)

/-- Which looked-up places lie in the table. -/
def inside (ids : IVec S4096x200 32) : IVec S4096x200 1 :=
  Host.reduce IntOp.andi (andi (cmpi .sge (places ids) (broadcastInDim S4096x200x1 ![] bcast_S_S4096x200x1 (constantI S_ 32 0#32))) (cmpi .sle (places ids) (broadcastInDim S4096x200x1 ![0, 1, 2] bcast_S1x1x1_S4096x200x1_0_1_2 (broadcastInDim S1x1x1 ![2] bcast_S1_S1x1x1_2 (constantI S1 32 99999#32))))) (constantI S_ 1 1#1) reducesTo_S4096x200x1_S4096x200_d2 h_S_

/-- The looked-up rows. -/
def rows (tab : FVec Ideal S100000x128 .f32) (ids : IVec S4096x200 32) : FVec Ideal S4096x200x128 .f32 :=
  select (broadcastInDim S4096x200x128 ![0, 1] bcast_S4096x200_S4096x200x128_0_1 (inside ids)) (Host.gather gather_S100000x128_S4096x200x1_S4096x200x128_2_0_n_n_0_2_1128 tab (places ids)) (broadcastInDim S4096x200x128 ![] bcast_S_S4096x200x128 (constant S_ .f32 0x7FC00000#32))

/-- The number of tokens of each sample, as a word. -/
def tokens (ids : IVec S4096x200 32) : IVec S4096 32 :=
  Host.reduce IntOp.addi (extui 32 (cmpi .ne ids (broadcastInDim S4096x200 ![] bcast_S_S4096x200 (constantI S_ 32 0#32))) natLt_1_32) (constantI S_ 32 0#32) reducesTo_S4096x200_S4096_d1 h_S_

/-- The reference's result from the looked-up rows, the numbers of tokens, the matrices and the biases. -/
def result (G : FVec Ideal S4096x200x128 .f32) (n : IVec S4096 32) (a2 : FVec Ideal S128x2048 .f32) (a3 : FVec Ideal S2048 .f32)
    (a4 : FVec Ideal S2048x1024 .f32) (a5 : FVec Ideal S1024 .f32) (a6 : FVec Ideal S1024x2048 .f32) (a7 : FVec Ideal S2048 .f32)
    (a8 : FVec Ideal S2048x128 .f32) (a9 : FVec Ideal S128 .f32) : FVec Ideal S4096x128 .f32 :=
  addf (Host.dotGeneral dot_S4096x2048_S2048x128_S4096x128_1_0_0_1_n_n none (maximumf (addf (Host.dotGeneral dot_S4096x1024_S1024x2048_S4096x2048_1_0_0_1_n_n none (maximumf (addf (Host.dotGeneral dot_S4096x2048_S2048x1024_S4096x1024_1_0_0_1_n_n none (maximumf (addf (Host.dotGeneral dot_S4096x128_S128x2048_S4096x2048_1_0_0_1_n_n none (Host.divf (Host.reduceAdd G (constant S_ .f32 0x00000000#32) reducesTo_S4096x200x128_S4096x128_d1 h_S_) (broadcastInDim S4096x128 ![0, 1] bcast_S4096x1_S4096x128_0_1 (Host.powf (sitofp .f32 (broadcastInDim S4096x1 ![0] bcast_S4096_S4096x1_0 n)) (broadcastInDim S4096x1 ![] bcast_S_S4096x1 (constant S_ .f32 0x3F000000#32))))) a2) (broadcastInDim S4096x2048 ![0, 1] bcast_S1x2048_S4096x2048_0_1 (broadcastInDim S1x2048 ![1] bcast_S2048_S1x2048_1 a3))) (broadcastInDim S4096x2048 ![] bcast_S_S4096x2048 (constant S_ .f32 0x00000000#32))) a4) (broadcastInDim S4096x1024 ![0, 1] bcast_S1x1024_S4096x1024_0_1 (broadcastInDim S1x1024 ![1] bcast_S1024_S1x1024_1 a5))) (broadcastInDim S4096x1024 ![] bcast_S_S4096x1024 (constant S_ .f32 0x00000000#32))) a6) (broadcastInDim S4096x2048 ![0, 1] bcast_S1x2048_S4096x2048_0_1 (broadcastInDim S1x2048 ![1] bcast_S2048_S1x2048_1 a7))) (broadcastInDim S4096x2048 ![] bcast_S_S4096x2048 (constant S_ .f32 0x00000000#32))) a8) (broadcastInDim S4096x128 ![0, 1] bcast_S1x128_S4096x128_0_1 (broadcastInDim S1x128 ![1] bcast_S128_S1x128_1 a9))

/-- One row of that result: the four layers applied to the sum of the sample's rows over a power of its number of tokens. -/
theorem result_apply (G : FVec Ideal S4096x200x128 .f32) (n : IVec S4096 32) (a2 : FVec Ideal S128x2048 .f32) (a3 : FVec Ideal S2048 .f32)
    (a4 : FVec Ideal S2048x1024 .f32) (a5 : FVec Ideal S1024 .f32) (a6 : FVec Ideal S1024x2048 .f32) (a7 : FVec Ideal S2048 .f32)
    (a8 : FVec Ideal S2048x128 .f32) (a9 : FVec Ideal S128 .f32) (i : Fin 4096) (j : Fin 128) :
    result G n a2 a3 a4 a5 a6 a7 a8 a9 (ix2 i j)
      = net (fun x => Ideal.div (∑ r : Fin 200, G (ix3 i r x)) (Ideal.pow (((n (ix1 i)).toInt : ℝ) : EReal) (Ideal.ofBits .f32 0x3F000000#32)))
          (mat a2) (vec a3) (mat a4) (vec a5) (mat a6) (vec a7) (mat a8) (vec a9) j := by
  pointwise [result]
  simp only [net, dense, relu, mat, vec]
  rfl

/-- A place in the table is looked up where the token number says. -/
theorem places_apply (ids : IVec S4096x200 32) (i : Fin 4096) (r : Fin 200) (h : (ids (ix2 i r)).toNat < 100000) :
    places ids (ix3 i r 0) = ids (ix2 i r) := by
  pointwise [places]
  refine if_neg fun e => ?_
  have := (StableHlo.Predicate.slt_iff_toNat (by omega) (by decide)).1 e
  simp at this

/-- Such a place lies in the table. -/
theorem inside_apply (ids : IVec S4096x200 32) (i : Fin 4096) (r : Fin 200) (h : (ids (ix2 i r)).toNat < 100000) :
    inside ids (ix2 i r) = 1#1 := by
  have e := places_apply ids i r h
  pointwise [inside]
  rw [Fin.univ_succ]
  simp only [Finset.univ_eq_empty, Finset.map_empty, Finset.cons_empty, Finset.fold_singleton, e]
  rw [(StableHlo.Predicate.sge_iff_toNat (by omega) (by decide)).2 (by simp),
    (StableHlo.Predicate.sle_iff_toNat (by omega) (by decide)).2 (by show _ ≤ 99999; omega)]
  rfl

/-- The word holding the number of tokens of a sample is that number. -/
theorem tokens_apply (ids : IVec S4096x200 32) (i : Fin 4096) :
    (tokens ids (ix1 i)).toInt = (filled (fun r => ids (ix2 i r)) : ℕ) := by
  have e : (tokens ids (ix1 i)).toNat = filled (fun r => ids (ix2 i r)) := by
    unfold tokens
    rw [StableHlo.Predicate.toNat_reduce_count_cols (by norm_num) _ _ _ _]
    unfold filled
    refine congrArg Finset.card (Finset.filter_congr fun r _ => ?_)
    have ej : StableHlo.Predicate.ij i r = ix2 i r := by
      funext b; match b with | ⟨0, _⟩ => rfl | ⟨1, _⟩ => rfl
    show BitVec.ofBool (ids (StableHlo.Predicate.ij i r) != 0#32) = 1#1 ↔ ids (ix2 i r) ≠ 0#32
    rw [ej]
    show BitVec.ofBool (ids (ix2 i r) != 0#32) = 1#1 ↔ _
    by_cases hz : ids (ix2 i r) = 0#32
    · simp [hz]
    · have hb : (ids (ix2 i r) != 0#32) = true := by simpa using hz
      rw [hb]
      exact ⟨fun _ => hz, fun _ => rfl⟩
  have hc : filled (fun r => ids (ix2 i r)) ≤ 200 := by
    refine (Finset.card_le_univ _).trans ?_
    simp
  rw [BitVec.toInt_eq_toNat_cond, if_pos (by omega), e]

/-- A lookup of rows read at one entry: the row that the token number names, where it names one. -/
theorem lookup_apply (tab : FVec Ideal S100000x128 .f32) (pl : IVec S4096x200x1 32) (i : Fin 4096) (r : Fin 200) (x : Fin 128)
    (h : (pl (ix3 i r 0)).toNat < 100000) :
    Host.gather gather_S100000x128_S4096x200x1_S4096x200x128_2_0_n_n_0_2_1128 tab pl (ix3 i r x)
      = tab (ix2 ⟨(pl (ix3 i r 0)).toNat, h⟩ x) := by
  let d := gather_S100000x128_S4096x200x1_S4096x200x128_2_0_n_n_0_2_1128
  have hp : d.siIdx (ix3 i r x) ⟨0, Nat.one_pos⟩ = ix3 i r 0 := by
    funext b
    match b with
    | ⟨0, _⟩ => rfl
    | ⟨1, _⟩ => rfl
    | ⟨2, _⟩ => rfl
  have hi : (pl (ix3 i r 0)).toInt = ((pl (ix3 i r 0)).toNat : ℤ) := by
    rw [BitVec.toInt_eq_toNat_cond, if_pos (by omega)]
  refine congrArg tab (funext fun a => Fin.ext ?_)
  match a with
  | ⟨0, _⟩ =>
    show min (pl (d.siIdx (ix3 i r x) ⟨0, Nat.one_pos⟩)).toInt.toNat 99999 + 0 + 0 = (pl (ix3 i r 0)).toNat
    rw [hp, hi, Int.toNat_natCast]
    omega
  | ⟨1, _⟩ =>
    show 0 + 0 + x.val = x.val
    omega

/-- The looked-up rows at one entry. -/
theorem rows_apply (tab : FVec Ideal S100000x128 .f32) (ids : IVec S4096x200 32) (i : Fin 4096) (r : Fin 200) (x : Fin 128)
    (h : (ids (ix2 i r)).toNat < 100000) : rows tab ids (ix3 i r x) = tab (ix2 ⟨(ids (ix2 i r)).toNat, h⟩ x) := by
  have e := places_apply ids i r h
  have e' := inside_apply ids i r h
  pointwise [rows]
  rw [e', lookup_apply tab (places ids) i r x (by rw [e]; exact h)]
  simp only [e]
  rfl

/-- The reference's result for token numbers that lie in the table, entry by entry. -/
theorem result_sample (a0 : IVec S4096x200 32) (a1 : FVec Ideal S100000x128 .f32) (a2 : FVec Ideal S128x2048 .f32) (a3 : FVec Ideal S2048 .f32)
    (a4 : FVec Ideal S2048x1024 .f32) (a5 : FVec Ideal S1024 .f32) (a6 : FVec Ideal S1024x2048 .f32) (a7 : FVec Ideal S2048 .f32)
    (a8 : FVec Ideal S2048x128 .f32) (a9 : FVec Ideal S128 .f32) (h : ∀ k, (a0 k).toNat < 100000) (i : Fin 4096) (j : Fin 128) :
    result (rows a1 a0) (tokens a0) a2 a3 a4 a5 a6 a7 a8 a9 (ix2 i j) = sample a0 a1 a2 a3 a4 a5 a6 a7 a8 a9 i j := by
  rw [result_apply, tokens_apply]
  unfold sample
  refine congrArg (fun f => net f _ _ _ _ _ _ _ _ j) (funext fun x => ?_)
  refine congrArg₂ Ideal.div (Finset.sum_congr rfl fun r _ => ?_) (congrArg (fun n => Ideal.pow n _) (by simp))
  rw [rows_apply a1 a0 i r x (h _)]
  exact congrArg a1 (Fold.at2_self _ rfl rfl).symm

end Cert.Written

end
-- ==== Proof.Meet.lean ====
/- The kernel's result is the reference's: the kernel's two half sums of a row are the sum over the row's 200 tokens, because
   the eight added tokens name row 0 of the table, which is zero; the biases are reshaped without change; and the reciprocal
   square root of the number of tokens, which is at least one, is the reciprocal of its power one half. -/
module

public import proofs.«01_k».proof.Proof.FrameI
public import proofs.«01_k».proof.Proof.ValueI
public import proofs.«01_k».proof.Proof.Written

@[expose] public section

set_option maxRecDepth 16384

noncomputable section

namespace Cert.Proof.PoolI

open Cert.KernelIdeal Cert.KernelIdeal.Gen Cert.Net
open Idealize.ShloMosaic Idealize.ShloMosaic.StableHlo Idealize.ShloMosaic.TcCoe
open Idealize.SL.Sem

/-- Over the extended reals the fold from zero is a sum. -/
theorem accum_sum (v : ℕ → EReal) (n : ℕ) : Fold.accum (F := Ideal) v n = ∑ r ∈ Finset.range n, v r := by
  induction n with
  | zero => exact Ideal.ofBits_zero_f32
  | succ n ih =>
    rw [Finset.sum_range_succ, ← ih]
    rfl

/-- Two half sums of 104 numbers each are the sum of the first 200 when the last eight are zero. -/
theorem halves (V : ℕ → ℕ → EReal) (g : ℕ → EReal) (h0 : ∀ r, r < 104 → V 0 r = g r) (h1 : ∀ r, r < 104 → V 1 r = g (104 + r))
    (hz : ∀ k, k < 8 → g (200 + k) = 0) :
    (∑ r ∈ Finset.range 104, V 0 r) + (∑ r ∈ Finset.range 104, V 1 r) = ∑ r : Fin 200, g r.val := by
  rw [Finset.sum_congr rfl fun r hr => h0 r (Finset.mem_range.1 hr), Finset.sum_congr rfl fun r hr => h1 r (Finset.mem_range.1 hr),
    ← Finset.sum_range_add g 104 104, ← Finset.sum_range g, Finset.sum_range_add g 200 8,
    Finset.sum_eq_zero (s := Finset.range 8) fun k hk => hz k (Finset.mem_range.1 hk), add_zero]

variable (m : (ℓ : Loc nD τ sig) → Buf (Elt Ideal) ℓ)

/-- The table and the token numbers of device `d`. -/
abbrev tokensOf (d : Dev nD) : IVec S4096x200 32 := m (d, rf main_arg0)
/-- The table on a device. -/
abbrev tableOf (d : Dev nD) : FVec Ideal S100000x128 .f32 := m (d, rf main_arg1)

/-- The pooled array at the TensorCore call: the sum over a row's tokens of the table's rows that they name. -/
theorem pooled_apply (d : Dev nD) (zero : ∀ y : S100000x128.Idx, (y 0).val = 0 → tableOf m d y = (0 : EReal)) (i : Fin 4096) (x : Fin 128) :
    (V3 m d (rf main_v2) : FVec Ideal S4096x128 .f32) (ix2 i x)
      = ∑ r : Fin 200, tableOf m d (Fold.at2 (tokensOf m d (ix2 i r)).toNat x.val) := by
  have e : V3 m d (rf main_v2) = new (Vh m) d := by
    rw [V3, reshape_result_ne (h := show main_v2 ≠ main_v6 by decide), reshape_result_ne (h := show main_v2 ≠ main_v5 by decide),
      reshape_result_ne (h := show main_v2 ≠ main_v4 by decide), reshape_result_ne (h := show main_v2 ≠ main_v3 by decide), V2,
      Function.update_self]
  have et : tab (Vh m) d = tableOf m d := Vh_keeps m d main_arg1 (by decide)
  refine (congrFun e (ix2 i x)).trans ?_
  refine Eq.trans (b := Fold.pooled (F := Ideal) (Fold.token (tableOf m d) (ids (Vh m) d) i.val) x.val)
    (congrArg (fun t => Fold.pooled (F := Ideal) (Fold.token t (ids (Vh m) d) i.val) x.val) et) ?_
  show Fold.accum (F := Ideal) (fun r => Fold.token (tableOf m d) (ids (Vh m) d) i.val 0 r x.val) 104
    + Fold.accum (F := Ideal) (fun r => Fold.token (tableOf m d) (ids (Vh m) d) i.val 1 r x.val) 104 = _
  rw [accum_sum, accum_sum]
  have hi : i.val % 4096 = i.val := Nat.mod_eq_of_lt i.isLt
  let V : ℕ → ℕ → EReal := fun h r => Fold.token (tableOf m d) (ids (Vh m) d) i.val h r x.val
  let g : ℕ → EReal := fun k => if hk : k < 200 then tableOf m d (Fold.at2 (tokensOf m d (ix2 i ⟨k, hk⟩)).toNat x.val) else 0
  have inn : ∀ (k : ℕ) (hk : k < 200), g k = tableOf m d (Fold.at2 (tokensOf m d (ix2 i ⟨k, hk⟩)).toNat x.val) := by
    intro k hk
    show (if hk : k < 200 then tableOf m d (Fold.at2 (tokensOf m d (ix2 i ⟨k, hk⟩)).toNat x.val) else 0) = _
    rw [dif_pos hk]
  have out : ∀ k : ℕ, ¬ k < 200 → g k = 0 := by
    intro k hk
    show (if hk : k < 200 then tableOf m d (Fold.at2 (tokensOf m d (ix2 i ⟨k, hk⟩)).toNat x.val) else 0) = _
    rw [dif_neg hk]
  have main : ∀ h r : ℕ, h < 2 → r < 104 → V h r = g (104 * h + r) := by
    intro h r hh hr
    have b1 : h % 2 = h := Nat.mod_eq_of_lt hh
    have b2 : r % 104 = r := Nat.mod_eq_of_lt hr
    let p : S4096x2x104.Idx := Fold.at3 i.val h r
    have p1 : (p 1).val = h := b1
    have p2 : (p 2).val = r := b2
    show tableOf m d (Fold.at2 (ids (Vh m) d p).toNat x.val) = _
    by_cases hk : 104 * h + r < 200
    · have : ids (Vh m) d p = tokensOf m d (ix2 i ⟨104 * h + r, hk⟩) := by
        refine ids_inside m d p (ix2 i ⟨104 * h + r, hk⟩) hi.symm ?_
        rw [p1, p2]
        show 104 * h + r = h * 104 + r
        omega
      rw [this]
      exact (inn _ hk).symm
    · rw [ids_outside m d p (by rw [p1, p2]; omega)]
      exact (zero _ rfl).trans (out _ hk).symm
  refine (halves V g (fun r hr => ?_) (fun r hr => ?_) fun k hk => out _ (by omega)).trans ?_
  · rw [main 0 r (by omega) hr]; congr 1; omega
  · rw [main 1 r (by omega) hr]
  · refine Finset.sum_congr rfl fun r _ => ?_
    exact inn r.val r.isLt

/-- The biases at the TensorCore call are the arguments, as one row each. -/
theorem bias_3 (d : Dev nD) : mat (V3 m d (rf main_v3) : FVec Ideal S1x2048 .f32) 0 = vec (m (d, rf main_arg3) : FVec Ideal S2048 .f32) := by
  have e : V3 m d (rf main_v3) = shapeCast S1x2048 (m (d, rf main_arg3) : FVec Ideal S2048 .f32) shapeCasts_S2048_S1x2048 := by
    rw [V3, reshape_result_ne (h := show main_v3 ≠ main_v6 by decide), reshape_result_ne (h := show main_v3 ≠ main_v5 by decide), reshape_result_ne (h := show main_v3 ≠ main_v4 by decide), reshape_result, V2,
      Function.update_of_ne (by decide), Vh_keeps m d main_arg3 (by decide)]
    rfl
  refine (congrArg (fun v => mat v 0) e).trans (funext fun j => ?_)
  show shapeCast S1x2048 (m (d, rf main_arg3) : FVec Ideal S2048 .f32) shapeCasts_S2048_S1x2048 (ix2 0 j) = _
  pointwise
  rfl

/-- The second layer's bias. -/
theorem bias_5 (d : Dev nD) : mat (V3 m d (rf main_v4) : FVec Ideal S1x1024 .f32) 0 = vec (m (d, rf main_arg5) : FVec Ideal S1024 .f32) := by
  have e : V3 m d (rf main_v4) = shapeCast S1x1024 (m (d, rf main_arg5) : FVec Ideal S1024 .f32) shapeCasts_S1024_S1x1024 := by
    rw [V3, reshape_result_ne (h := show main_v4 ≠ main_v6 by decide), reshape_result_ne (h := show main_v4 ≠ main_v5 by decide), reshape_result, reshape_result_ne (h := show main_arg5 ≠ main_v3 by decide), V2,
      Function.update_of_ne (by decide), Vh_keeps m d main_arg5 (by decide)]
    rfl
  refine (congrArg (fun v => mat v 0) e).trans (funext fun j => ?_)
  show shapeCast S1x1024 (m (d, rf main_arg5) : FVec Ideal S1024 .f32) shapeCasts_S1024_S1x1024 (ix2 0 j) = _
  pointwise
  rfl

/-- The third layer's bias. -/
theorem bias_7 (d : Dev nD) : mat (V3 m d (rf main_v5) : FVec Ideal S1x2048 .f32) 0 = vec (m (d, rf main_arg7) : FVec Ideal S2048 .f32) := by
  have e : V3 m d (rf main_v5) = shapeCast S1x2048 (m (d, rf main_arg7) : FVec Ideal S2048 .f32) shapeCasts_S2048_S1x2048 := by
    rw [V3, reshape_result_ne (h := show main_v5 ≠ main_v6 by decide), reshape_result, reshape_result_ne (h := show main_arg7 ≠ main_v4 by decide), reshape_result_ne (h := show main_arg7 ≠ main_v3 by decide), V2,
      Function.update_of_ne (by decide), Vh_keeps m d main_arg7 (by decide)]
    rfl
  refine (congrArg (fun v => mat v 0) e).trans (funext fun j => ?_)
  show shapeCast S1x2048 (m (d, rf main_arg7) : FVec Ideal S2048 .f32) shapeCasts_S2048_S1x2048 (ix2 0 j) = _
  pointwise
  rfl

/-- The last layer's bias. -/
theorem bias_9 (d : Dev nD) : mat (V3 m d (rf main_v6) : FVec Ideal S1x128 .f32) 0 = vec (m (d, rf main_arg9) : FVec Ideal S128 .f32) := by
  have e : V3 m d (rf main_v6) = shapeCast S1x128 (m (d, rf main_arg9) : FVec Ideal S128 .f32) shapeCasts_S128_S1x128 := by
    rw [V3, reshape_result, reshape_result_ne (h := show main_arg9 ≠ main_v5 by decide), reshape_result_ne (h := show main_arg9 ≠ main_v4 by decide), reshape_result_ne (h := show main_arg9 ≠ main_v3 by decide), V2,
      Function.update_of_ne (by decide), Vh_keeps m d main_arg9 (by decide)]
    rfl
  refine (congrArg (fun v => mat v 0) e).trans (funext fun j => ?_)
  show shapeCast S1x128 (m (d, rf main_arg9) : FVec Ideal S128 .f32) shapeCasts_S128_S1x128 (ix2 0 j) = _
  pointwise
  rfl

/-- The kernel's result, entry by entry, for a table whose row 0 is zero and token lists that each hold a token. -/
theorem Vf_sample (d : Dev nD) (zero : ∀ y : S100000x128.Idx, (y 0).val = 0 → tableOf m d y = (0 : EReal))
    (some : ∀ i : Fin 4096, 1 ≤ filled (fun r => tokensOf m d (ix2 i r))) (i : Fin 4096) (j : Fin 128) :
    (Vf m d (rf main_v7) : FVec Ideal S4096x128 .f32) (ix2 i j)
      = sample (tokensOf m d) (tableOf m d) (m (d, rf main_arg2)) (m (d, rf main_arg3)) (m (d, rf main_arg4)) (m (d, rf main_arg5))
          (m (d, rf main_arg6)) (m (d, rf main_arg7)) (m (d, rf main_arg8)) (m (d, rf main_arg9)) i j := by
  refine (congrFun (Wp_out (V3 m) bnd d) (ix2 i j)).trans ((mlpOut_apply (V3 m) bnd d i j).trans ?_)
  unfold layered layers sample
  rw [bias_3, bias_5, bias_7, bias_9, V3_keeps m d main_arg0 (by decide), V3_keeps m d main_arg2 (by decide),
    V3_keeps m d main_arg4 (by decide), V3_keeps m d main_arg6 (by decide), V3_keeps m d main_arg8 (by decide)]
  refine congrArg (fun f => net f _ _ _ _ _ _ _ _ j) (funext fun x => ?_)
  refine (congrArg (fun t : EReal => t * Ideal.rsqrt _) (pooled_apply m d zero i x)).trans ?_
  exact scaled _ _ (some i)

end Cert.Proof.PoolI

end
-- ==== Proof.lean ====
/- The certificate: the claims of `Cert.Claim`, each from the module that proves its substance.

   The frames of the kernel (at bits and at extended reals) are `run_frame` of Proof/FrameP.lean and Proof/FrameI.lean: the
   launch as a whole, SparseCore call and TensorCore call, run to its end with the argument arrays as they were and every counter
   back at zero, for index arrays whose entries lie in the table (Proof/Pre.lean reads that off either precondition). The
   reference's frames are its run read at its arguments; it has no counter.

   The value claim is `algebraic`: Proof/Meet.lean reads the kernel's result, and Proof/Written.lean the reference's, as
   `Cert.Net.sample` of the arguments, entry by entry.  -/
module

public import proofs.«01_k».proof.Defs
public import proofs.«01_k».proof.Proof.FrameP
public import proofs.«01_k».proof.Proof.FrameI
public import proofs.«01_k».proof.Proof.Padded
public import proofs.«01_k».proof.Proof.Meet
public import proofs.«01_k».proof.Proof.Gen.ReferenceIdeal.Run

@[expose] public section

set_option maxRecDepth 16384

noncomputable section

namespace Cert.Proof

open Idealize.ShloMosaic Idealize.SL.Sem

/-- The kernel at bits runs and leaves its arguments as they were. -/
theorem frame_kernel : Cert.quiescent_Kernel := by
  intro m g h
  refine θ_run_mono (PoolP.run_frame (F := Bits) m g fun d k => Cert.Given.range_of_ids_in_table _ _ _ _ _ _ _ _ _ _ (h d) k) ?_
  rintro r ⟨h1, h2⟩
  exact ⟨fun c => ⟨(h1 c).2 Cert.Kernel.main_arg0 (by decide) (by decide),
      (h1 c).2 Cert.Kernel.main_arg1 (by decide) (by decide),
      (h1 c).2 Cert.Kernel.main_arg2 (by decide) (by decide),
      (h1 c).2 Cert.Kernel.main_arg3 (by decide) (by decide),
      (h1 c).2 Cert.Kernel.main_arg4 (by decide) (by decide),
      (h1 c).2 Cert.Kernel.main_arg5 (by decide) (by decide),
      (h1 c).2 Cert.Kernel.main_arg6 (by decide) (by decide),
      (h1 c).2 Cert.Kernel.main_arg7 (by decide) (by decide),
      (h1 c).2 Cert.Kernel.main_arg8 (by decide) (by decide),
      (h1 c).2 Cert.Kernel.main_arg9 (by decide) (by decide)⟩, h2⟩

/-- The kernel at extended reals runs and leaves its arguments as they were. -/
theorem frame_ideal : Cert.quiescent_KernelIdeal := by
  intro m g h
  refine θ_run_mono (PoolI.run_frame (F := Ideal) m g fun d k => Cert.Given.range_of_ids_in_table _ _ _ _ _ _ _ _ _ _ (h d) k) ?_
  rintro r ⟨h1, h2⟩
  exact ⟨fun c => ⟨(h1 c).2 Cert.KernelIdeal.main_arg0 (by decide) (by decide),
      (h1 c).2 Cert.KernelIdeal.main_arg1 (by decide) (by decide),
      (h1 c).2 Cert.KernelIdeal.main_arg2 (by decide) (by decide),
      (h1 c).2 Cert.KernelIdeal.main_arg3 (by decide) (by decide),
      (h1 c).2 Cert.KernelIdeal.main_arg4 (by decide) (by decide),
      (h1 c).2 Cert.KernelIdeal.main_arg5 (by decide) (by decide),
      (h1 c).2 Cert.KernelIdeal.main_arg6 (by decide) (by decide),
      (h1 c).2 Cert.KernelIdeal.main_arg7 (by decide) (by decide),
      (h1 c).2 Cert.KernelIdeal.main_arg8 (by decide) (by decide),
      (h1 c).2 Cert.KernelIdeal.main_arg9 (by decide) (by decide)⟩, h2⟩

/-- The kernel at extended reals, under the value claim's precondition. -/
theorem frame_ideal_padded : Cert.quiescent_KernelIdeal_pre_padded_ids := by
  intro m g h
  refine θ_run_mono (PoolI.run_frame (F := Ideal) m g fun d k => Cert.Given.range_of_padded _ _ _ _ _ _ _ _ _ _ (h d) k) ?_
  rintro r ⟨h1, h2⟩
  exact ⟨fun c => ⟨(h1 c).2 Cert.KernelIdeal.main_arg0 (by decide) (by decide),
      (h1 c).2 Cert.KernelIdeal.main_arg1 (by decide) (by decide),
      (h1 c).2 Cert.KernelIdeal.main_arg2 (by decide) (by decide),
      (h1 c).2 Cert.KernelIdeal.main_arg3 (by decide) (by decide),
      (h1 c).2 Cert.KernelIdeal.main_arg4 (by decide) (by decide),
      (h1 c).2 Cert.KernelIdeal.main_arg5 (by decide) (by decide),
      (h1 c).2 Cert.KernelIdeal.main_arg6 (by decide) (by decide),
      (h1 c).2 Cert.KernelIdeal.main_arg7 (by decide) (by decide),
      (h1 c).2 Cert.KernelIdeal.main_arg8 (by decide) (by decide),
      (h1 c).2 Cert.KernelIdeal.main_arg9 (by decide) (by decide)⟩, h2⟩

/-- The reference at extended reals runs and leaves its arguments as they were. -/
theorem frame_reference : Cert.quiescent_ReferenceIdeal := by
  intro m g _
  exact θ_run_mono (Cert.ReferenceIdeal.Value.run (F := Ideal) m g) fun r h =>
    ⟨fun c => (h c).2, sem_eq_zero_of_no_sems (by decide) r.2⟩

/-- The reference's frame again, under the value claim's precondition. -/
theorem frame_reference_padded : Cert.quiescent_ReferenceIdeal_pre_padded_ids := fun m g _ => frame_reference m g trivial

/-- Under the value claim's precondition, every token list has a token that is not zero. -/
theorem some_token (m : (ℓ : Loc Cert.KernelIdeal.nD Cert.KernelIdeal.τ Cert.KernelIdeal.sig) → Buf (Elt Ideal) ℓ)
    (h : Cert.Pre_KernelIdeal_padded_ids m) (d : Dev Cert.KernelIdeal.nD) (i : Fin 4096) :
    1 ≤ Cert.Net.filled (fun r => PoolI.tokensOf m d (ix2 i r)) := by
  obtain ⟨k, hk, hx⟩ := Cert.Given.nonempty_of_padded _ _ _ _ _ _ _ _ _ _ (h d) (ix1 i)
  have e : k = ix2 i (k 1) := by
    funext a
    match a with
    | ⟨0, _⟩ => exact Fin.ext hk
    | ⟨1, _⟩ => rfl
  exact Cert.Net.one_le_filled _ (k 1) fun hz => hx ((congrArg (PoolI.tokensOf m d) e).trans hz)

/-- From the same arguments, kernel and reference end with the same result: both with `Cert.Net.sample` at every entry. -/
theorem algebraic : Cert.algebraic_KernelIdeal_ReferenceIdeal_pre_padded_ids := by
  intro m g m' g' h hm
  refine ⟨fun c => PoolI.Vf m c (PoolI.rf Cert.KernelIdeal.main_v7), ?_, ?_⟩
  · refine θ_run_mono (PoolI.run_frame (F := Ideal) m g fun d k => Cert.Given.range_of_padded _ _ _ _ _ _ _ _ _ _ (h d) k) ?_
    rintro r ⟨h1, -⟩
    exact fun c => ⟨(h1 c).1, (h1 c).2 Cert.KernelIdeal.main_arg0 (by decide) (by decide),
      (h1 c).2 Cert.KernelIdeal.main_arg1 (by decide) (by decide),
      (h1 c).2 Cert.KernelIdeal.main_arg2 (by decide) (by decide),
      (h1 c).2 Cert.KernelIdeal.main_arg3 (by decide) (by decide),
      (h1 c).2 Cert.KernelIdeal.main_arg4 (by decide) (by decide),
      (h1 c).2 Cert.KernelIdeal.main_arg5 (by decide) (by decide),
      (h1 c).2 Cert.KernelIdeal.main_arg6 (by decide) (by decide),
      (h1 c).2 Cert.KernelIdeal.main_arg7 (by decide) (by decide),
      (h1 c).2 Cert.KernelIdeal.main_arg8 (by decide) (by decide),
      (h1 c).2 Cert.KernelIdeal.main_arg9 (by decide) (by decide)⟩
  · refine θ_run_mono (Cert.ReferenceIdeal.Value.run (F := Ideal) m' g') fun r hr c => ⟨(hr c).1.trans ?_, (hr c).2⟩
    obtain ⟨e0, e1, e2, e3, e4, e5, e6, e7, e8, e9⟩ := hm c
    rw [e0, e1, e2, e3, e4, e5, e6, e7, e8, e9]
    funext z
    obtain ⟨i, j, rfl⟩ : ∃ (i : Fin 4096) (j : Fin 128), z = ix2 i j :=
      ⟨z 0, z 1, funext fun a => match a with
        | ⟨0, _⟩ => rfl
        | ⟨1, _⟩ => rfl⟩
    refine (Cert.Written.result_sample _ _ _ _ _ _ _ _ _ _
      (fun k => Cert.Given.range_of_padded _ _ _ _ _ _ _ _ _ _ (h c) k) i j).trans ?_
    exact (PoolI.Vf_sample m c (fun y hy => Cert.Given.row_zero_of_padded _ _ _ _ _ _ _ _ _ _ (h c) y hy)
      (fun i => some_token m h c i) i j).symm

/-- Every claim of the certificate. -/
theorem claim : Cert.Claim :=
  ⟨Cert.Kernel.Gen.facts, Cert.KernelIdeal.Gen.facts, Cert.ReferenceIdeal.Gen.facts, Cert.Pre_ids_in_table.Gen.facts,
    Cert.Pre_padded_ids.Gen.facts, frame_kernel, frame_ideal, frame_ideal_padded, frame_reference, frame_reference_padded, trivial,
    algebraic⟩

end Cert.Proof

end
